-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x56x56 : Shape := ⟨4, ![4, 256, 56, 56]⟩
abbrev S256x256x3x3 : Shape := ⟨4, ![256, 256, 3, 3]⟩
abbrev S18x256x3x3 : Shape := ⟨4, ![18, 256, 3, 3]⟩
abbrev S18 : Shape := ⟨1, ![18]⟩
abbrev S3136x2 : Shape := ⟨2, ![3136, 2]⟩
abbrev S3136x1 : Shape := ⟨2, ![3136, 1]⟩
abbrev S2x3136 : Shape := ⟨2, ![2, 3136]⟩
abbrev S4x56x56x256 : Shape := ⟨4, ![4, 56, 56, 256]⟩
abbrev S4x3136x256 : Shape := ⟨3, ![4, 3136, 256]⟩
abbrev S3x3x256x18 : Shape := ⟨4, ![3, 3, 256, 18]⟩
abbrev S9x256x18 : Shape := ⟨3, ![9, 256, 18]⟩
abbrev S1x18 : Shape := ⟨2, ![1, 18]⟩
abbrev S256x256x9 : Shape := ⟨3, ![256, 256, 9]⟩
abbrev S9x256x256 : Shape := ⟨3, ![9, 256, 256]⟩
abbrev S2304x256 : Shape := ⟨2, ![2304, 256]⟩
abbrev S4x256x3136 : Shape := ⟨3, ![4, 256, 3136]⟩
abbrev S1x3136x256 : Shape := ⟨3, ![1, 3136, 256]⟩
abbrev S784x2 : Shape := ⟨2, ![784, 2]⟩
abbrev S1x784x256 : Shape := ⟨3, ![1, 784, 256]⟩
abbrev S3136x18 : Shape := ⟨2, ![3136, 18]⟩
abbrev S3136x256 : Shape := ⟨2, ![3136, 256]⟩
abbrev S57x256 : Shape := ⟨2, ![57, 256]⟩
abbrev S3079x256 : Shape := ⟨2, ![3079, 256]⟩
abbrev S1x256x18 : Shape := ⟨3, ![1, 256, 18]⟩
abbrev S256x18 : Shape := ⟨2, ![256, 18]⟩
abbrev S56x256 : Shape := ⟨2, ![56, 256]⟩
abbrev S3080x256 : Shape := ⟨2, ![3080, 256]⟩
abbrev S55x256 : Shape := ⟨2, ![55, 256]⟩
abbrev S3081x256 : Shape := ⟨2, ![3081, 256]⟩
abbrev S1x256 : Shape := ⟨2, ![1, 256]⟩
abbrev S3135x256 : Shape := ⟨2, ![3135, 256]⟩
abbrev S784x18 : Shape := ⟨2, ![784, 18]⟩
abbrev S784x1 : Shape := ⟨2, ![784, 1]⟩
abbrev S1x3136 : Shape := ⟨2, ![1, 3136]⟩
abbrev S784x3136 : Shape := ⟨2, ![784, 3136]⟩
abbrev S784x256 : Shape := ⟨2, ![784, 256]⟩
abbrev S784x2304 : Shape := ⟨2, ![784, 2304]⟩

abbrev nBuf : Space → Nat
  | .hbm => 19
  | .vmem => 14
  | .smem => 0
  | _ => 0

abbrev bufTy : (tb : Table) → Fin (tcTables nBuf tb) → BufTy
  | .hbm, ⟨0, _⟩ => ⟨S4x256x56x56, .f32⟩
  | .hbm, ⟨1, _⟩ => ⟨S256x256x3x3, .f32⟩
  | .hbm, ⟨2, _⟩ => ⟨S18x256x3x3, .f32⟩
  | .hbm, ⟨3, _⟩ => ⟨S18, .f32⟩
  | .hbm, ⟨4, _⟩ => ⟨S3136x2, .f32⟩
  | .hbm, ⟨5, _⟩ => ⟨S3136x1, .f32⟩
  | .hbm, ⟨6, _⟩ => ⟨S2x3136, .f32⟩
  | .hbm, ⟨7, _⟩ => ⟨S4x56x56x256, .f32⟩
  | .hbm, ⟨8, _⟩ => ⟨S4x3136x256, .f32⟩
  | .hbm, ⟨9, _⟩ => ⟨S3x3x256x18, .f32⟩
  | .hbm, ⟨10, _⟩ => ⟨S9x256x18, .f32⟩
  | .hbm, ⟨11, _⟩ => ⟨S1x18, .f32⟩
  | .hbm, ⟨12, _⟩ => ⟨S256x256x9, .f32⟩
  | .hbm, ⟨13, _⟩ => ⟨S9x256x256, .f32⟩
  | .hbm, ⟨14, _⟩ => ⟨S2304x256, .f32⟩
  | .hbm, ⟨15, _⟩ => ⟨S4x3136x256, .bf16⟩
  | .hbm, ⟨16, _⟩ => ⟨S4x3136x256, .f32⟩
  | .hbm, ⟨17, _⟩ => ⟨S4x256x3136, .f32⟩
  | .hbm, ⟨18, _⟩ => ⟨S4x256x56x56, .f32⟩
  | .local _ .vmem, ⟨0, _⟩ => ⟨S1x3136x256, .f32⟩
  | .local _ .vmem, ⟨1, _⟩ => ⟨S1x3136x256, .f32⟩
  | .local _ .vmem, ⟨2, _⟩ => ⟨S1x3136x256, .bf16⟩
  | .local _ .vmem, ⟨3, _⟩ => ⟨S1x3136x256, .bf16⟩
  | .local _ .vmem, ⟨4, _⟩ => ⟨S9x256x18, .f32⟩
  | .local _ .vmem, ⟨5, _⟩ => ⟨S1x18, .f32⟩
  | .local _ .vmem, ⟨6, _⟩ => ⟨S2304x256, .f32⟩
  | .local _ .vmem, ⟨7, _⟩ => ⟨S784x2, .f32⟩
  | .local _ .vmem, ⟨8, _⟩ => ⟨S784x2, .f32⟩
  | .local _ .vmem, ⟨9, _⟩ => ⟨S3136x1, .f32⟩
  | .local _ .vmem, ⟨10, _⟩ => ⟨S2x3136, .f32⟩
  | .local _ .vmem, ⟨11, _⟩ => ⟨S1x784x256, .f32⟩
  | .local _ .vmem, ⟨12, _⟩ => ⟨S1x784x256, .f32⟩
  | .local _ .vmem, ⟨13, _⟩ => ⟨S3136x18, .f32⟩
  | _, _ => ⟨S4x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_cst_0 : Ref sig .tc := ⟨.hbm, 5, rfl⟩
abbrev main_call0_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg1 : BitVec 32 := BitVec.ofNat 32 (i 1).val
  let c784_i32 : BitVec 32 := 784#32
  let v5 : BitVec 32 := Scalar.muli arg1 c784_i32
  let v6 : Index := Scalar.indexCast v5
  let c0_3 : Index := 0#32
  ![v6.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3136x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S9x256x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2304x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S784x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S3136x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x3136 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x784x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x256x56x56 : Shape := ⟨4, ![4, 256, 56, 56]⟩
abbrev S256x256x3x3 : Shape := ⟨4, ![256, 256, 3, 3]⟩
abbrev S18x256x3x3 : Shape := ⟨4, ![18, 256, 3, 3]⟩
abbrev S18 : Shape := ⟨1, ![18]⟩
abbrev S_ : Shape := ⟨0, ![]⟩
abbrev S4x256x58x58 : Shape := ⟨4, ![4, 256, 58, 58]⟩
abbrev S4x18x56x56 : Shape := ⟨4, ![4, 18, 56, 56]⟩
abbrev S18x256x1x1 : Shape := ⟨4, ![18, 256, 1, 1]⟩
abbrev S18x256 : Shape := ⟨2, ![18, 256]⟩
abbrev S18x4x56x56 : Shape := ⟨4, ![18, 4, 56, 56]⟩
abbrev S1x18x1x1 : Shape := ⟨4, ![1, 18, 1, 1]⟩
abbrev S4x1x9x2x56x56 : Shape := ⟨6, ![4, 1, 9, 2, 56, 56]⟩
abbrev S9 : Shape := ⟨1, ![9]⟩
abbrev S56 : Shape := ⟨1, ![56]⟩
abbrev S1x56x1 : Shape := ⟨3, ![1, 56, 1]⟩
abbrev S9x1x1 : Shape := ⟨3, ![9, 1, 1]⟩
abbrev S9x56x1 : Shape := ⟨3, ![9, 56, 1]⟩
abbrev S1x1x56 : Shape := ⟨3, ![1, 1, 56]⟩
abbrev S9x1x56 : Shape := ⟨3, ![9, 1, 56]⟩
abbrev S1x1x9x56x1 : Shape := ⟨5, ![1, 1, 9, 56, 1]⟩
abbrev S4x1x9x1x56x56 : Shape := ⟨6, ![4, 1, 9, 1, 56, 56]⟩
abbrev S4x1x9x56x56 : Shape := ⟨5, ![4, 1, 9, 56, 56]⟩
abbrev S1x1x9x1x56 : Shape := ⟨5, ![1, 1, 9, 1, 56]⟩
abbrev S4x1x256x3136 : Shape := ⟨4, ![4, 1, 256, 3136]⟩
abbrev S4x1x1x28224 : Shape := ⟨4, ![4, 1, 1, 28224]⟩
abbrev S4x28224x1 : Shape := ⟨3, ![4, 28224, 1]⟩
abbrev S1 : Shape := ⟨1, ![1]⟩
abbrev S1x1x1 : Shape := ⟨3, ![1, 1, 1]⟩
abbrev S4x28224 : Shape := ⟨2, ![4, 28224]⟩
abbrev S4x1x256x28224 : Shape := ⟨4, ![4, 1, 256, 28224]⟩
abbrev S4x256x9x56x56 : Shape := ⟨5, ![4, 256, 9, 56, 56]⟩
abbrev S256x256x9 : Shape := ⟨3, ![256, 256, 9]⟩
abbrev S256x4x56x56 : Shape := ⟨4, ![256, 4, 56, 56]⟩

abbrev nBuf : Space → Nat
  | .hbm => 445
  | .vmem => 0
  | .smem => 0
  | _ => 0

abbrev hbmTy0_0 (i : Nat) : BufTy := match i % 128 with
  | 0 => ⟨S4x256x56x56, .f32⟩
  | 1 => ⟨S256x256x3x3, .f32⟩
  | 2 => ⟨S18x256x3x3, .f32⟩
  | 3 => ⟨S18, .f32⟩
  | 4 => ⟨S_, .i32⟩
  | 5 => ⟨S_, .f32⟩
  | 6 => ⟨S4x256x58x58, .f32⟩
  | 7 => ⟨S_, .f32⟩
  | 8 => ⟨S4x18x56x56, .f32⟩
  | 9 => ⟨S4x256x56x56, .f32⟩
  | 10 => ⟨S18x256x1x1, .f32⟩
  | 11 => ⟨S18x256, .f32⟩
  | 12 => ⟨S18x4x56x56, .f32⟩
  | 13 => ⟨S4x18x56x56, .f32⟩
  | 14 => ⟨S4x18x56x56, .f32⟩
  | 15 => ⟨S4x256x56x56, .f32⟩
  | 16 => ⟨S18x256x1x1, .f32⟩
  | 17 => ⟨S18x256, .f32⟩
  | 18 => ⟨S18x4x56x56, .f32⟩
  | 19 => ⟨S4x18x56x56, .f32⟩
  | 20 => ⟨S4x18x56x56, .f32⟩
  | 21 => ⟨S4x256x56x56, .f32⟩
  | 22 => ⟨S18x256x1x1, .f32⟩
  | 23 => ⟨S18x256, .f32⟩
  | 24 => ⟨S18x4x56x56, .f32⟩
  | 25 => ⟨S4x18x56x56, .f32⟩
  | 26 => ⟨S4x18x56x56, .f32⟩
  | 27 => ⟨S4x256x56x56, .f32⟩
  | 28 => ⟨S18x256x1x1, .f32⟩
  | 29 => ⟨S18x256, .f32⟩
  | 30 => ⟨S18x4x56x56, .f32⟩
  | 31 => ⟨S4x18x56x56, .f32⟩
  | 32 => ⟨S4x18x56x56, .f32⟩
  | 33 => ⟨S4x256x56x56, .f32⟩
  | 34 => ⟨S18x256x1x1, .f32⟩
  | 35 => ⟨S18x256, .f32⟩
  | 36 => ⟨S18x4x56x56, .f32⟩
  | 37 => ⟨S4x18x56x56, .f32⟩
  | 38 => ⟨S4x18x56x56, .f32⟩
  | 39 => ⟨S4x256x56x56, .f32⟩
  | 40 => ⟨S18x256x1x1, .f32⟩
  | 41 => ⟨S18x256, .f32⟩
  | 42 => ⟨S18x4x56x56, .f32⟩
  | 43 => ⟨S4x18x56x56, .f32⟩
  | 44 => ⟨S4x18x56x56, .f32⟩
  | 45 => ⟨S4x256x56x56, .f32⟩
  | 46 => ⟨S18x256x1x1, .f32⟩
  | 47 => ⟨S18x256, .f32⟩
  | 48 => ⟨S18x4x56x56, .f32⟩
  | 49 => ⟨S4x18x56x56, .f32⟩
  | 50 => ⟨S4x18x56x56, .f32⟩
  | 51 => ⟨S4x256x56x56, .f32⟩
  | 52 => ⟨S18x256x1x1, .f32⟩
  | 53 => ⟨S18x256, .f32⟩
  | 54 => ⟨S18x4x56x56, .f32⟩
  | 55 => ⟨S4x18x56x56, .f32⟩
  | 56 => ⟨S4x18x56x56, .f32⟩
  | 57 => ⟨S4x256x56x56, .f32⟩
  | 58 => ⟨S18x256x1x1, .f32⟩
  | 59 => ⟨S18x256, .f32⟩
  | 60 => ⟨S18x4x56x56, .f32⟩
  | 61 => ⟨S4x18x56x56, .f32⟩
  | 62 => ⟨S4x18x56x56, .f32⟩
  | 63 => ⟨S1x18x1x1, .f32⟩
  | 64 => ⟨S4x18x56x56, .f32⟩
  | 65 => ⟨S4x18x56x56, .f32⟩
  | 66 => ⟨S4x1x9x2x56x56, .f32⟩
  | 67 => ⟨S9, .i32⟩
  | 68 => ⟨S_, .i32⟩
  | 69 => ⟨S_, .i32⟩
  | 70 => ⟨S9, .i32⟩
  | 71 => ⟨S9, .i32⟩
  | 72 => ⟨S9, .i32⟩
  | 73 => ⟨S_, .i32⟩
  | 74 => ⟨S9, .i32⟩
  | 75 => ⟨S9, .i1⟩
  | 76 => ⟨S9, .i32⟩
  | 77 => ⟨S9, .i32⟩
  | 78 => ⟨S_, .i32⟩
  | 79 => ⟨S9, .i32⟩
  | 80 => ⟨S9, .i1⟩
  | 81 => ⟨S9, .i1⟩
  | 82 => ⟨S_, .i32⟩
  | 83 => ⟨S9, .i32⟩
  | 84 => ⟨S9, .i32⟩
  | 85 => ⟨S9, .i32⟩
  | 86 => ⟨S9, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S9, .i32⟩
  | 94 => ⟨S9, .i32⟩
  | 95 => ⟨S_, .i32⟩
  | 96 => ⟨S9, .i32⟩
  | 97 => ⟨S9, .i1⟩
  | 98 => ⟨S_, .i32⟩
  | 99 => ⟨S9, .i32⟩
  | 100 => ⟨S9, .i1⟩
  | 101 => ⟨S_, .i32⟩
  | 102 => ⟨S_, .i1⟩
  | 103 => ⟨S9, .i1⟩
  | 104 => ⟨S9, .i1⟩
  | 105 => ⟨S9, .i1⟩
  | 106 => ⟨S9, .i32⟩
  | 107 => ⟨S9, .i32⟩
  | 108 => ⟨S9, .i32⟩
  | 109 => ⟨S56, .i32⟩
  | 110 => ⟨S_, .i32⟩
  | 111 => ⟨S56, .i32⟩
  | 112 => ⟨S56, .i32⟩
  | 113 => ⟨S_, .i32⟩
  | 114 => ⟨S56, .i32⟩
  | 115 => ⟨S56, .i32⟩
  | 116 => ⟨S1x56x1, .i32⟩
  | 117 => ⟨S9x1x1, .i32⟩
  | 118 => ⟨S9x56x1, .i32⟩
  | 119 => ⟨S9x56x1, .i32⟩
  | 120 => ⟨S9x56x1, .i32⟩
  | 121 => ⟨S56, .i32⟩
  | 122 => ⟨S_, .i32⟩
  | 123 => ⟨S56, .i32⟩
  | 124 => ⟨S56, .i32⟩
  | 125 => ⟨S_, .i32⟩
  | 126 => ⟨S56, .i32⟩
  | 127 => ⟨S56, .i32⟩
  | _ => ⟨S4x256x56x56, .f32⟩

abbrev hbmTy0_1 (i : Nat) : BufTy := match i % 128 with
  | 0 => ⟨S1x1x56, .i32⟩
  | 1 => ⟨S9x1x1, .i32⟩
  | 2 => ⟨S9x1x56, .i32⟩
  | 3 => ⟨S9x1x56, .i32⟩
  | 4 => ⟨S9x1x56, .i32⟩
  | 5 => ⟨S1x1x9x56x1, .i32⟩
  | 6 => ⟨S1x1x9x56x1, .f32⟩
  | 7 => ⟨S4x1x9x1x56x56, .f32⟩
  | 8 => ⟨S4x1x9x56x56, .f32⟩
  | 9 => ⟨S4x1x9x56x56, .f32⟩
  | 10 => ⟨S4x1x9x56x56, .f32⟩
  | 11 => ⟨S1x1x9x1x56, .i32⟩
  | 12 => ⟨S1x1x9x1x56, .f32⟩
  | 13 => ⟨S4x1x9x1x56x56, .f32⟩
  | 14 => ⟨S4x1x9x56x56, .f32⟩
  | 15 => ⟨S4x1x9x56x56, .f32⟩
  | 16 => ⟨S4x1x9x56x56, .f32⟩
  | 17 => ⟨S4x1x256x3136, .f32⟩
  | 18 => ⟨S4x1x9x56x56, .f32⟩
  | 19 => ⟨S4x1x9x56x56, .i32⟩
  | 20 => ⟨S4x1x9x56x56, .f32⟩
  | 21 => ⟨S4x1x9x56x56, .i32⟩
  | 22 => ⟨S4x1x9x56x56, .f32⟩
  | 23 => ⟨S4x1x9x56x56, .f32⟩
  | 24 => ⟨S4x1x9x56x56, .f32⟩
  | 25 => ⟨S4x1x9x56x56, .f32⟩
  | 26 => ⟨S_, .f32⟩
  | 27 => ⟨S4x1x9x56x56, .f32⟩
  | 28 => ⟨S4x1x9x56x56, .f32⟩
  | 29 => ⟨S_, .f32⟩
  | 30 => ⟨S4x1x9x56x56, .f32⟩
  | 31 => ⟨S4x1x9x56x56, .f32⟩
  | 32 => ⟨S4x1x9x56x56, .f32⟩
  | 33 => ⟨S_, .i32⟩
  | 34 => ⟨S4x1x9x56x56, .i32⟩
  | 35 => ⟨S4x1x9x56x56, .i1⟩
  | 36 => ⟨S_, .i32⟩
  | 37 => ⟨S4x1x9x56x56, .i32⟩
  | 38 => ⟨S4x1x9x56x56, .i1⟩
  | 39 => ⟨S4x1x9x56x56, .i1⟩
  | 40 => ⟨S_, .i32⟩
  | 41 => ⟨S4x1x9x56x56, .i32⟩
  | 42 => ⟨S4x1x9x56x56, .i1⟩
  | 43 => ⟨S4x1x9x56x56, .i1⟩
  | 44 => ⟨S_, .i32⟩
  | 45 => ⟨S4x1x9x56x56, .i32⟩
  | 46 => ⟨S4x1x9x56x56, .i1⟩
  | 47 => ⟨S4x1x9x56x56, .i1⟩
  | 48 => ⟨S_, .i32⟩
  | 49 => ⟨S_, .i32⟩
  | 50 => ⟨S_, .i32⟩
  | 51 => ⟨S4x1x9x56x56, .i32⟩
  | 52 => ⟨S4x1x9x56x56, .i32⟩
  | 53 => ⟨S_, .i32⟩
  | 54 => ⟨S4x1x9x56x56, .i32⟩
  | 55 => ⟨S4x1x9x56x56, .i32⟩
  | 56 => ⟨S_, .i32⟩
  | 57 => ⟨S4x1x9x56x56, .i32⟩
  | 58 => ⟨S4x1x9x56x56, .i32⟩
  | 59 => ⟨S_, .i32⟩
  | 60 => ⟨S_, .i32⟩
  | 61 => ⟨S_, .i32⟩
  | 62 => ⟨S4x1x9x56x56, .i32⟩
  | 63 => ⟨S4x1x9x56x56, .i32⟩
  | 64 => ⟨S_, .i32⟩
  | 65 => ⟨S4x1x9x56x56, .i32⟩
  | 66 => ⟨S4x1x9x56x56, .i32⟩
  | 67 => ⟨S4x1x9x56x56, .i32⟩
  | 68 => ⟨S4x1x1x28224, .i32⟩
  | 69 => ⟨S_, .i32⟩
  | 70 => ⟨S4x1x1x28224, .i32⟩
  | 71 => ⟨S4x1x1x28224, .i1⟩
  | 72 => ⟨S_, .i32⟩
  | 73 => ⟨S4x1x1x28224, .i32⟩
  | 74 => ⟨S4x1x1x28224, .i32⟩
  | 75 => ⟨S4x1x1x28224, .i32⟩
  | 76 => ⟨S4x28224x1, .i32⟩
  | 77 => ⟨S1, .i32⟩
  | 78 => ⟨S_, .i32⟩
  | 79 => ⟨S4x28224x1, .i32⟩
  | 80 => ⟨S4x28224x1, .i1⟩
  | 81 => ⟨S1x1x1, .i32⟩
  | 82 => ⟨S4x28224x1, .i32⟩
  | 83 => ⟨S4x28224x1, .i1⟩
  | 84 => ⟨S4x28224x1, .i1⟩
  | 85 => ⟨S_, .i1⟩
  | 86 => ⟨S4x28224, .i1⟩
  | 87 => ⟨S4x1x256x28224, .f32⟩
  | 88 => ⟨S4x1x256x28224, .i1⟩
  | 89 => ⟨S_, .f32⟩
  | 90 => ⟨S4x1x256x28224, .f32⟩
  | 91 => ⟨S4x1x256x28224, .f32⟩
  | 92 => ⟨S4x1x9x56x56, .f32⟩
  | 93 => ⟨S4x1x9x56x56, .f32⟩
  | 94 => ⟨S4x1x1x28224, .f32⟩
  | 95 => ⟨S4x1x256x28224, .f32⟩
  | 96 => ⟨S4x1x256x28224, .f32⟩
  | 97 => ⟨S_, .i32⟩
  | 98 => ⟨S4x1x9x56x56, .i32⟩
  | 99 => ⟨S4x1x9x56x56, .i32⟩
  | 100 => ⟨S_, .f32⟩
  | 101 => ⟨S4x1x9x56x56, .f32⟩
  | 102 => ⟨S4x1x9x56x56, .f32⟩
  | 103 => ⟨S4x1x9x56x56, .f32⟩
  | 104 => ⟨S_, .i32⟩
  | 105 => ⟨S4x1x9x56x56, .i32⟩
  | 106 => ⟨S4x1x9x56x56, .i1⟩
  | 107 => ⟨S_, .i32⟩
  | 108 => ⟨S4x1x9x56x56, .i32⟩
  | 109 => ⟨S4x1x9x56x56, .i1⟩
  | 110 => ⟨S4x1x9x56x56, .i1⟩
  | 111 => ⟨S_, .i32⟩
  | 112 => ⟨S4x1x9x56x56, .i32⟩
  | 113 => ⟨S4x1x9x56x56, .i1⟩
  | 114 => ⟨S4x1x9x56x56, .i1⟩
  | 115 => ⟨S_, .i32⟩
  | 116 => ⟨S4x1x9x56x56, .i32⟩
  | 117 => ⟨S4x1x9x56x56, .i1⟩
  | 118 => ⟨S4x1x9x56x56, .i1⟩
  | 119 => ⟨S_, .i32⟩
  | 120 => ⟨S_, .i32⟩
  | 121 => ⟨S_, .i32⟩
  | 122 => ⟨S4x1x9x56x56, .i32⟩
  | 123 => ⟨S4x1x9x56x56, .i32⟩
  | 124 => ⟨S_, .i32⟩
  | 125 => ⟨S4x1x9x56x56, .i32⟩
  | 126 => ⟨S4x1x9x56x56, .i32⟩
  | 127 => ⟨S_, .i32⟩
  | _ => ⟨S4x256x56x56, .f32⟩

abbrev hbmTy0_2 (i : Nat) : BufTy := match i % 128 with
  | 0 => ⟨S4x1x9x56x56, .i32⟩
  | 1 => ⟨S4x1x9x56x56, .i32⟩
  | 2 => ⟨S_, .i32⟩
  | 3 => ⟨S_, .i32⟩
  | 4 => ⟨S_, .i32⟩
  | 5 => ⟨S4x1x9x56x56, .i32⟩
  | 6 => ⟨S4x1x9x56x56, .i32⟩
  | 7 => ⟨S_, .i32⟩
  | 8 => ⟨S4x1x9x56x56, .i32⟩
  | 9 => ⟨S4x1x9x56x56, .i32⟩
  | 10 => ⟨S4x1x9x56x56, .i32⟩
  | 11 => ⟨S4x1x1x28224, .i32⟩
  | 12 => ⟨S_, .i32⟩
  | 13 => ⟨S4x1x1x28224, .i32⟩
  | 14 => ⟨S4x1x1x28224, .i1⟩
  | 15 => ⟨S_, .i32⟩
  | 16 => ⟨S4x1x1x28224, .i32⟩
  | 17 => ⟨S4x1x1x28224, .i32⟩
  | 18 => ⟨S4x1x1x28224, .i32⟩
  | 19 => ⟨S4x28224x1, .i32⟩
  | 20 => ⟨S1, .i32⟩
  | 21 => ⟨S_, .i32⟩
  | 22 => ⟨S4x28224x1, .i32⟩
  | 23 => ⟨S4x28224x1, .i1⟩
  | 24 => ⟨S1x1x1, .i32⟩
  | 25 => ⟨S4x28224x1, .i32⟩
  | 26 => ⟨S4x28224x1, .i1⟩
  | 27 => ⟨S4x28224x1, .i1⟩
  | 28 => ⟨S_, .i1⟩
  | 29 => ⟨S4x28224, .i1⟩
  | 30 => ⟨S4x1x256x28224, .f32⟩
  | 31 => ⟨S4x1x256x28224, .i1⟩
  | 32 => ⟨S_, .f32⟩
  | 33 => ⟨S4x1x256x28224, .f32⟩
  | 34 => ⟨S4x1x256x28224, .f32⟩
  | 35 => ⟨S4x1x9x56x56, .f32⟩
  | 36 => ⟨S4x1x9x56x56, .f32⟩
  | 37 => ⟨S4x1x1x28224, .f32⟩
  | 38 => ⟨S4x1x256x28224, .f32⟩
  | 39 => ⟨S4x1x256x28224, .f32⟩
  | 40 => ⟨S4x1x256x28224, .f32⟩
  | 41 => ⟨S_, .i32⟩
  | 42 => ⟨S4x1x9x56x56, .i32⟩
  | 43 => ⟨S4x1x9x56x56, .i32⟩
  | 44 => ⟨S_, .f32⟩
  | 45 => ⟨S4x1x9x56x56, .f32⟩
  | 46 => ⟨S4x1x9x56x56, .f32⟩
  | 47 => ⟨S4x1x9x56x56, .f32⟩
  | 48 => ⟨S_, .i32⟩
  | 49 => ⟨S4x1x9x56x56, .i32⟩
  | 50 => ⟨S4x1x9x56x56, .i1⟩
  | 51 => ⟨S_, .i32⟩
  | 52 => ⟨S4x1x9x56x56, .i32⟩
  | 53 => ⟨S4x1x9x56x56, .i1⟩
  | 54 => ⟨S4x1x9x56x56, .i1⟩
  | 55 => ⟨S_, .i32⟩
  | 56 => ⟨S4x1x9x56x56, .i32⟩
  | 57 => ⟨S4x1x9x56x56, .i1⟩
  | 58 => ⟨S4x1x9x56x56, .i1⟩
  | 59 => ⟨S_, .i32⟩
  | 60 => ⟨S4x1x9x56x56, .i32⟩
  | 61 => ⟨S4x1x9x56x56, .i1⟩
  | 62 => ⟨S4x1x9x56x56, .i1⟩
  | 63 => ⟨S_, .i32⟩
  | 64 => ⟨S_, .i32⟩
  | 65 => ⟨S_, .i32⟩
  | 66 => ⟨S4x1x9x56x56, .i32⟩
  | 67 => ⟨S4x1x9x56x56, .i32⟩
  | 68 => ⟨S_, .i32⟩
  | 69 => ⟨S4x1x9x56x56, .i32⟩
  | 70 => ⟨S4x1x9x56x56, .i32⟩
  | 71 => ⟨S_, .i32⟩
  | 72 => ⟨S4x1x9x56x56, .i32⟩
  | 73 => ⟨S4x1x9x56x56, .i32⟩
  | 74 => ⟨S_, .i32⟩
  | 75 => ⟨S_, .i32⟩
  | 76 => ⟨S_, .i32⟩
  | 77 => ⟨S4x1x9x56x56, .i32⟩
  | 78 => ⟨S4x1x9x56x56, .i32⟩
  | 79 => ⟨S_, .i32⟩
  | 80 => ⟨S4x1x9x56x56, .i32⟩
  | 81 => ⟨S4x1x9x56x56, .i32⟩
  | 82 => ⟨S4x1x9x56x56, .i32⟩
  | 83 => ⟨S4x1x1x28224, .i32⟩
  | 84 => ⟨S_, .i32⟩
  | 85 => ⟨S4x1x1x28224, .i32⟩
  | 86 => ⟨S4x1x1x28224, .i1⟩
  | 87 => ⟨S_, .i32⟩
  | 88 => ⟨S4x1x1x28224, .i32⟩
  | 89 => ⟨S4x1x1x28224, .i32⟩
  | 90 => ⟨S4x1x1x28224, .i32⟩
  | 91 => ⟨S4x28224x1, .i32⟩
  | 92 => ⟨S1, .i32⟩
  | 93 => ⟨S_, .i32⟩
  | 94 => ⟨S4x28224x1, .i32⟩
  | 95 => ⟨S4x28224x1, .i1⟩
  | 96 => ⟨S1x1x1, .i32⟩
  | 97 => ⟨S4x28224x1, .i32⟩
  | 98 => ⟨S4x28224x1, .i1⟩
  | 99 => ⟨S4x28224x1, .i1⟩
  | 100 => ⟨S_, .i1⟩
  | 101 => ⟨S4x28224, .i1⟩
  | 102 => ⟨S4x1x256x28224, .f32⟩
  | 103 => ⟨S4x1x256x28224, .i1⟩
  | 104 => ⟨S_, .f32⟩
  | 105 => ⟨S4x1x256x28224, .f32⟩
  | 106 => ⟨S4x1x256x28224, .f32⟩
  | 107 => ⟨S4x1x9x56x56, .f32⟩
  | 108 => ⟨S4x1x9x56x56, .f32⟩
  | 109 => ⟨S4x1x1x28224, .f32⟩
  | 110 => ⟨S4x1x256x28224, .f32⟩
  | 111 => ⟨S4x1x256x28224, .f32⟩
  | 112 => ⟨S4x1x256x28224, .f32⟩
  | 113 => ⟨S_, .i32⟩
  | 114 => ⟨S4x1x9x56x56, .i32⟩
  | 115 => ⟨S4x1x9x56x56, .i32⟩
  | 116 => ⟨S_, .i32⟩
  | 117 => ⟨S4x1x9x56x56, .i32⟩
  | 118 => ⟨S4x1x9x56x56, .i32⟩
  | 119 => ⟨S4x1x9x56x56, .f32⟩
  | 120 => ⟨S_, .i32⟩
  | 121 => ⟨S4x1x9x56x56, .i32⟩
  | 122 => ⟨S4x1x9x56x56, .i1⟩
  | 123 => ⟨S_, .i32⟩
  | 124 => ⟨S4x1x9x56x56, .i32⟩
  | 125 => ⟨S4x1x9x56x56, .i1⟩
  | 126 => ⟨S4x1x9x56x56, .i1⟩
  | 127 => ⟨S_, .i32⟩
  | _ => ⟨S4x256x56x56, .f32⟩

abbrev hbmTy0_3 (i : Nat) : BufTy := match i % 128 with
  | 0 => ⟨S4x1x9x56x56, .i32⟩
  | 1 => ⟨S4x1x9x56x56, .i1⟩
  | 2 => ⟨S4x1x9x56x56, .i1⟩
  | 3 => ⟨S_, .i32⟩
  | 4 => ⟨S4x1x9x56x56, .i32⟩
  | 5 => ⟨S4x1x9x56x56, .i1⟩
  | 6 => ⟨S4x1x9x56x56, .i1⟩
  | 7 => ⟨S_, .i32⟩
  | 8 => ⟨S_, .i32⟩
  | 9 => ⟨S_, .i32⟩
  | 10 => ⟨S4x1x9x56x56, .i32⟩
  | 11 => ⟨S4x1x9x56x56, .i32⟩
  | 12 => ⟨S_, .i32⟩
  | 13 => ⟨S4x1x9x56x56, .i32⟩
  | 14 => ⟨S4x1x9x56x56, .i32⟩
  | 15 => ⟨S_, .i32⟩
  | 16 => ⟨S4x1x9x56x56, .i32⟩
  | 17 => ⟨S4x1x9x56x56, .i32⟩
  | 18 => ⟨S_, .i32⟩
  | 19 => ⟨S_, .i32⟩
  | 20 => ⟨S_, .i32⟩
  | 21 => ⟨S4x1x9x56x56, .i32⟩
  | 22 => ⟨S4x1x9x56x56, .i32⟩
  | 23 => ⟨S_, .i32⟩
  | 24 => ⟨S4x1x9x56x56, .i32⟩
  | 25 => ⟨S4x1x9x56x56, .i32⟩
  | 26 => ⟨S4x1x9x56x56, .i32⟩
  | 27 => ⟨S4x1x1x28224, .i32⟩
  | 28 => ⟨S_, .i32⟩
  | 29 => ⟨S4x1x1x28224, .i32⟩
  | 30 => ⟨S4x1x1x28224, .i1⟩
  | 31 => ⟨S_, .i32⟩
  | 32 => ⟨S4x1x1x28224, .i32⟩
  | 33 => ⟨S4x1x1x28224, .i32⟩
  | 34 => ⟨S4x1x1x28224, .i32⟩
  | 35 => ⟨S4x28224x1, .i32⟩
  | 36 => ⟨S1, .i32⟩
  | 37 => ⟨S_, .i32⟩
  | 38 => ⟨S4x28224x1, .i32⟩
  | 39 => ⟨S4x28224x1, .i1⟩
  | 40 => ⟨S1x1x1, .i32⟩
  | 41 => ⟨S4x28224x1, .i32⟩
  | 42 => ⟨S4x28224x1, .i1⟩
  | 43 => ⟨S4x28224x1, .i1⟩
  | 44 => ⟨S_, .i1⟩
  | 45 => ⟨S4x28224, .i1⟩
  | 46 => ⟨S4x1x256x28224, .f32⟩
  | 47 => ⟨S4x1x256x28224, .i1⟩
  | 48 => ⟨S_, .f32⟩
  | 49 => ⟨S4x1x256x28224, .f32⟩
  | 50 => ⟨S4x1x256x28224, .f32⟩
  | 51 => ⟨S4x1x9x56x56, .f32⟩
  | 52 => ⟨S4x1x9x56x56, .f32⟩
  | 53 => ⟨S4x1x1x28224, .f32⟩
  | 54 => ⟨S4x1x256x28224, .f32⟩
  | 55 => ⟨S4x1x256x28224, .f32⟩
  | 56 => ⟨S4x1x256x28224, .f32⟩
  | 57 => ⟨S4x256x9x56x56, .f32⟩
  | 58 => ⟨S256x256x9, .f32⟩
  | 59 => ⟨S256x4x56x56, .f32⟩
  | 60 => ⟨S4x256x56x56, .f32⟩
  | _ => ⟨S4x256x56x56, .f32⟩

abbrev hbmTy (i : Nat) : BufTy := match i / 128 with
  | 0 => hbmTy0_0 i
  | 1 => hbmTy0_1 i
  | 2 => hbmTy0_2 i
  | 3 => hbmTy0_3 i
  | _ => ⟨S4x256x56x56, .f32⟩

abbrev bufTy : (tb : Table) → Fin (tcTables nBuf tb) → BufTy
  | .hbm, ⟨i, _⟩ => hbmTy i
  | _, _ => ⟨S4x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_c_0 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_c : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_0 : Ref sig .tc := ⟨.hbm, 82, rfl⟩
abbrev main_call1_v12 : Ref sig .tc := ⟨.hbm, 83, rfl⟩
abbrev main_call1_v13 : Ref sig .tc := ⟨.hbm, 84, rfl⟩
abbrev main_v61 : Ref sig .tc := ⟨.hbm, 85, rfl⟩
abbrev main_v62 : Ref sig .tc := ⟨.hbm, 86, rfl⟩
abbrev main_c_1 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_c_1 : Ref sig .tc := ⟨.hbm, 95, rfl⟩
abbrev main_call2_v5 : Ref sig .tc := ⟨.hbm, 96, rfl⟩
abbrev main_call2_v6 : Ref sig .tc := ⟨.hbm, 97, rfl⟩
abbrev main_call2_c_2 : Ref sig .tc := ⟨.hbm, 98, rfl⟩
abbrev main_call2_v7 : Ref sig .tc := ⟨.hbm, 99, rfl⟩
abbrev main_call2_v8 : Ref sig .tc := ⟨.hbm, 100, rfl⟩
abbrev main_call2_c_3 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_v63 : Ref sig .tc := ⟨.hbm, 108, rfl⟩
abbrev main_v64 : Ref sig .tc := ⟨.hbm, 109, rfl⟩
abbrev main_c_2 : Ref sig .tc := ⟨.hbm, 110, rfl⟩
abbrev main_v65 : Ref sig .tc := ⟨.hbm, 111, rfl⟩
abbrev main_v66 : Ref sig .tc := ⟨.hbm, 112, rfl⟩
abbrev main_c_3 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_c_4 : Ref sig .tc := ⟨.hbm, 122, rfl⟩
abbrev main_v75 : Ref sig .tc := ⟨.hbm, 123, rfl⟩
abbrev main_v76 : Ref sig .tc := ⟨.hbm, 124, rfl⟩
abbrev main_c_5 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_6 : Ref sig .tc := ⟨.hbm, 154, rfl⟩
abbrev main_v105 : Ref sig .tc := ⟨.hbm, 155, rfl⟩
abbrev main_v106 : Ref sig .tc := ⟨.hbm, 156, rfl⟩
abbrev main_cst_7 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_c_8 : Ref sig .tc := ⟨.hbm, 161, rfl⟩
abbrev main_v110 : Ref sig .tc := ⟨.hbm, 162, rfl⟩
abbrev main_v111 : Ref sig .tc := ⟨.hbm, 163, rfl⟩
abbrev main_c_9 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_c_10 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_c_11 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_c_12 : Ref sig .tc := ⟨.hbm, 176, rfl⟩
abbrev main_c_13 : Ref sig .tc := ⟨.hbm, 177, rfl⟩
abbrev main_call3_v0 : Ref sig .tc := ⟨.hbm, 178, rfl⟩
abbrev main_call3_v1 : Ref sig .tc := ⟨.hbm, 179, rfl⟩
abbrev main_call3_v2 : Ref sig .tc := ⟨.hbm, 180, rfl⟩
abbrev main_call3_v3 : Ref sig .tc := ⟨.hbm, 181, rfl⟩
abbrev main_call3_v4 : Ref sig .tc := ⟨.hbm, 182, rfl⟩
abbrev main_v121 : Ref sig .tc := ⟨.hbm, 183, rfl⟩
abbrev main_c_14 : Ref sig .tc := ⟨.hbm, 184, rfl⟩
abbrev main_v122 : Ref sig .tc := ⟨.hbm, 185, rfl⟩
abbrev main_v123 : Ref sig .tc := ⟨.hbm, 186, rfl⟩
abbrev main_c_15 : Ref sig .tc := ⟨.hbm, 187, rfl⟩
abbrev main_c_16 : Ref sig .tc := ⟨.hbm, 188, rfl⟩
abbrev main_call4_v0 : Ref sig .tc := ⟨.hbm, 189, rfl⟩
abbrev main_call4_v1 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_call5_c : Ref sig .tc := ⟨.hbm, 197, rfl⟩
abbrev main_call5_v0 : Ref sig .tc := ⟨.hbm, 198, rfl⟩
abbrev main_call5_v1 : Ref sig .tc := ⟨.hbm, 199, rfl⟩
abbrev main_call5_c_0 : Ref sig .tc := ⟨.hbm, 200, rfl⟩
abbrev main_call5_v2 : Ref sig .tc := ⟨.hbm, 201, rfl⟩
abbrev main_call5_v3 : Ref sig .tc := ⟨.hbm, 202, rfl⟩
abbrev main_call5_v4 : Ref sig .tc := ⟨.hbm, 203, rfl⟩
abbrev main_call5_v5 : Ref sig .tc := ⟨.hbm, 204, rfl⟩
abbrev main_call5_c_1 : Ref sig .tc := ⟨.hbm, 205, rfl⟩
abbrev main_call5_c_2 : Ref sig .tc := ⟨.hbm, 206, rfl⟩
abbrev main_call5_v6 : Ref sig .tc := ⟨.hbm, 207, rfl⟩
abbrev main_call5_v7 : Ref sig .tc := ⟨.hbm, 208, rfl⟩
abbrev main_call5_v8 : Ref sig .tc := ⟨.hbm, 209, rfl⟩
abbrev main_call5_v9 : Ref sig .tc := ⟨.hbm, 210, rfl⟩
abbrev main_call5_v10 : Ref sig .tc := ⟨.hbm, 211, rfl⟩
abbrev main_call5_v11 : Ref sig .tc := ⟨.hbm, 212, rfl⟩
abbrev main_call5_c_3 : Ref sig .tc := ⟨.hbm, 213, rfl⟩
abbrev main_call5_v12 : Ref sig .tc := ⟨.hbm, 214, rfl⟩
abbrev main_call5_v13 : Ref sig .tc := ⟨.hbm, 215, rfl⟩
abbrev main_call5_v14 : Ref sig .tc := ⟨.hbm, 216, rfl⟩
abbrev main_call5_cst : Ref sig .tc := ⟨.hbm, 217, rfl⟩
abbrev main_call5_v15 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_c_17 : Ref sig .tc := ⟨.hbm, 225, rfl⟩
abbrev main_v133 : Ref sig .tc := ⟨.hbm, 226, rfl⟩
abbrev main_v134 : Ref sig .tc := ⟨.hbm, 227, rfl⟩
abbrev main_cst_18 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_c_19 : Ref sig .tc := ⟨.hbm, 232, rfl⟩
abbrev main_v138 : Ref sig .tc := ⟨.hbm, 233, rfl⟩
abbrev main_v139 : Ref sig .tc := ⟨.hbm, 234, rfl⟩
abbrev main_c_20 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_c_21 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_c_22 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_c_23 : Ref sig .tc := ⟨.hbm, 247, rfl⟩
abbrev main_c_24 : Ref sig .tc := ⟨.hbm, 248, rfl⟩
abbrev main_call6_v0 : Ref sig .tc := ⟨.hbm, 249, rfl⟩
abbrev main_call6_v1 : Ref sig .tc := ⟨.hbm, 250, rfl⟩
abbrev main_call6_v2 : Ref sig .tc := ⟨.hbm, 251, rfl⟩
abbrev main_call6_v3 : Ref sig .tc := ⟨.hbm, 252, rfl⟩
abbrev main_call6_v4 : Ref sig .tc := ⟨.hbm, 253, rfl⟩
abbrev main_v149 : Ref sig .tc := ⟨.hbm, 254, rfl⟩
abbrev main_c_25 : Ref sig .tc := ⟨.hbm, 255, rfl⟩
abbrev main_v150 : Ref sig .tc := ⟨.hbm, 256, rfl⟩
abbrev main_v151 : Ref sig .tc := ⟨.hbm, 257, rfl⟩
abbrev main_c_26 : Ref sig .tc := ⟨.hbm, 258, rfl⟩
abbrev main_c_27 : Ref sig .tc := ⟨.hbm, 259, rfl⟩
abbrev main_call7_v0 : Ref sig .tc := ⟨.hbm, 260, rfl⟩
abbrev main_call7_v1 : Ref sig .tc := ⟨.hbm, 261, rfl⟩
abbrev main_call7_v2 : Ref sig .tc := ⟨.hbm, 262, rfl⟩
abbrev main_call7_v3 : Ref sig .tc := ⟨.hbm, 263, rfl⟩
abbrev main_call7_v4 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev main_call8_c : Ref sig .tc := ⟨.hbm, 268, rfl⟩
abbrev main_call8_v0 : Ref sig .tc := ⟨.hbm, 269, rfl⟩
abbrev main_call8_v1 : Ref sig .tc := ⟨.hbm, 270, rfl⟩
abbrev main_call8_c_0 : Ref sig .tc := ⟨.hbm, 271, rfl⟩
abbrev main_call8_v2 : Ref sig .tc := ⟨.hbm, 272, rfl⟩
abbrev main_call8_v3 : Ref sig .tc := ⟨.hbm, 273, rfl⟩
abbrev main_call8_v4 : Ref sig .tc := ⟨.hbm, 274, rfl⟩
abbrev main_call8_v5 : Ref sig .tc := ⟨.hbm, 275, rfl⟩
abbrev main_call8_c_1 : Ref sig .tc := ⟨.hbm, 276, rfl⟩
abbrev main_call8_c_2 : Ref sig .tc := ⟨.hbm, 277, rfl⟩
abbrev main_call8_v6 : Ref sig .tc := ⟨.hbm, 278, rfl⟩
abbrev main_call8_v7 : Ref sig .tc := ⟨.hbm, 279, rfl⟩
abbrev main_call8_v8 : Ref sig .tc := ⟨.hbm, 280, rfl⟩
abbrev main_call8_v9 : Ref sig .tc := ⟨.hbm, 281, rfl⟩
abbrev main_call8_v10 : Ref sig .tc := ⟨.hbm, 282, rfl⟩
abbrev main_call8_v11 : Ref sig .tc := ⟨.hbm, 283, rfl⟩
abbrev main_call8_c_3 : Ref sig .tc := ⟨.hbm, 284, rfl⟩
abbrev main_call8_v12 : Ref sig .tc := ⟨.hbm, 285, rfl⟩
abbrev main_call8_v13 : Ref sig .tc := ⟨.hbm, 286, rfl⟩
abbrev main_call8_v14 : Ref sig .tc := ⟨.hbm, 287, rfl⟩
abbrev main_call8_cst : Ref sig .tc := ⟨.hbm, 288, rfl⟩
abbrev main_call8_v15 : Ref sig .tc := ⟨.hbm, 289, rfl⟩
abbrev main_v155 : Ref sig .tc := ⟨.hbm, 290, rfl⟩
abbrev main_v156 : Ref sig .tc := ⟨.hbm, 291, rfl⟩
abbrev main_v157 : Ref sig .tc := ⟨.hbm, 292, rfl⟩
abbrev main_v158 : Ref sig .tc := ⟨.hbm, 293, rfl⟩
abbrev main_v159 : Ref sig .tc := ⟨.hbm, 294, rfl⟩
abbrev main_v160 : Ref sig .tc := ⟨.hbm, 295, rfl⟩
abbrev main_v161 : Ref sig .tc := ⟨.hbm, 296, rfl⟩
abbrev main_c_28 : Ref sig .tc := ⟨.hbm, 297, rfl⟩
abbrev main_v162 : Ref sig .tc := ⟨.hbm, 298, rfl⟩
abbrev main_v163 : Ref sig .tc := ⟨.hbm, 299, rfl⟩
abbrev main_cst_29 : Ref sig .tc := ⟨.hbm, 300, rfl⟩
abbrev main_v164 : Ref sig .tc := ⟨.hbm, 301, rfl⟩
abbrev main_v165 : Ref sig .tc := ⟨.hbm, 302, rfl⟩
abbrev main_v166 : Ref sig .tc := ⟨.hbm, 303, rfl⟩
abbrev main_c_30 : Ref sig .tc := ⟨.hbm, 304, rfl⟩
abbrev main_v167 : Ref sig .tc := ⟨.hbm, 305, rfl⟩
abbrev main_v168 : Ref sig .tc := ⟨.hbm, 306, rfl⟩
abbrev main_c_31 : Ref sig .tc := ⟨.hbm, 307, rfl⟩
abbrev main_v169 : Ref sig .tc := ⟨.hbm, 308, rfl⟩
abbrev main_v170 : Ref sig .tc := ⟨.hbm, 309, rfl⟩
abbrev main_v171 : Ref sig .tc := ⟨.hbm, 310, rfl⟩
abbrev main_c_32 : Ref sig .tc := ⟨.hbm, 311, rfl⟩
abbrev main_v172 : Ref sig .tc := ⟨.hbm, 312, rfl⟩
abbrev main_v173 : Ref sig .tc := ⟨.hbm, 313, rfl⟩
abbrev main_v174 : Ref sig .tc := ⟨.hbm, 314, rfl⟩
abbrev main_c_33 : Ref sig .tc := ⟨.hbm, 315, rfl⟩
abbrev main_v175 : Ref sig .tc := ⟨.hbm, 316, rfl⟩
abbrev main_v176 : Ref sig .tc := ⟨.hbm, 317, rfl⟩
abbrev main_v177 : Ref sig .tc := ⟨.hbm, 318, rfl⟩
abbrev main_c_34 : Ref sig .tc := ⟨.hbm, 319, rfl⟩
abbrev main_c_35 : Ref sig .tc := ⟨.hbm, 320, rfl⟩
abbrev main_call9_v0 : Ref sig .tc := ⟨.hbm, 321, rfl⟩
abbrev main_call9_v1 : Ref sig .tc := ⟨.hbm, 322, rfl⟩
abbrev main_call9_v2 : Ref sig .tc := ⟨.hbm, 323, rfl⟩
abbrev main_call9_v3 : Ref sig .tc := ⟨.hbm, 324, rfl⟩
abbrev main_call9_v4 : Ref sig .tc := ⟨.hbm, 325, rfl⟩
abbrev main_v178 : Ref sig .tc := ⟨.hbm, 326, rfl⟩
abbrev main_c_36 : Ref sig .tc := ⟨.hbm, 327, rfl⟩
abbrev main_v179 : Ref sig .tc := ⟨.hbm, 328, rfl⟩
abbrev main_v180 : Ref sig .tc := ⟨.hbm, 329, rfl⟩
abbrev main_c_37 : Ref sig .tc := ⟨.hbm, 330, rfl⟩
abbrev main_c_38 : Ref sig .tc := ⟨.hbm, 331, rfl⟩
abbrev main_call10_v0 : Ref sig .tc := ⟨.hbm, 332, rfl⟩
abbrev main_call10_v1 : Ref sig .tc := ⟨.hbm, 333, rfl⟩
abbrev main_call10_v2 : Ref sig .tc := ⟨.hbm, 334, rfl⟩
abbrev main_call10_v3 : Ref sig .tc := ⟨.hbm, 335, rfl⟩
abbrev main_call10_v4 : Ref sig .tc := ⟨.hbm, 336, rfl⟩
abbrev main_v181 : Ref sig .tc := ⟨.hbm, 337, rfl⟩
abbrev main_v182 : Ref sig .tc := ⟨.hbm, 338, rfl⟩
abbrev main_v183 : Ref sig .tc := ⟨.hbm, 339, rfl⟩
abbrev main_call11_c : Ref sig .tc := ⟨.hbm, 340, rfl⟩
abbrev main_call11_v0 : Ref sig .tc := ⟨.hbm, 341, rfl⟩
abbrev main_call11_v1 : Ref sig .tc := ⟨.hbm, 342, rfl⟩
abbrev main_call11_c_0 : Ref sig .tc := ⟨.hbm, 343, rfl⟩
abbrev main_call11_v2 : Ref sig .tc := ⟨.hbm, 344, rfl⟩
abbrev main_call11_v3 : Ref sig .tc := ⟨.hbm, 345, rfl⟩
abbrev main_call11_v4 : Ref sig .tc := ⟨.hbm, 346, rfl⟩
abbrev main_call11_v5 : Ref sig .tc := ⟨.hbm, 347, rfl⟩
abbrev main_call11_c_1 : Ref sig .tc := ⟨.hbm, 348, rfl⟩
abbrev main_call11_c_2 : Ref sig .tc := ⟨.hbm, 349, rfl⟩
abbrev main_call11_v6 : Ref sig .tc := ⟨.hbm, 350, rfl⟩
abbrev main_call11_v7 : Ref sig .tc := ⟨.hbm, 351, rfl⟩
abbrev main_call11_v8 : Ref sig .tc := ⟨.hbm, 352, rfl⟩
abbrev main_call11_v9 : Ref sig .tc := ⟨.hbm, 353, rfl⟩
abbrev main_call11_v10 : Ref sig .tc := ⟨.hbm, 354, rfl⟩
abbrev main_call11_v11 : Ref sig .tc := ⟨.hbm, 355, rfl⟩
abbrev main_call11_c_3 : Ref sig .tc := ⟨.hbm, 356, rfl⟩
abbrev main_call11_v12 : Ref sig .tc := ⟨.hbm, 357, rfl⟩
abbrev main_call11_v13 : Ref sig .tc := ⟨.hbm, 358, rfl⟩
abbrev main_call11_v14 : Ref sig .tc := ⟨.hbm, 359, rfl⟩
abbrev main_call11_cst : Ref sig .tc := ⟨.hbm, 360, rfl⟩
abbrev main_call11_v15 : Ref sig .tc := ⟨.hbm, 361, rfl⟩
abbrev main_v184 : Ref sig .tc := ⟨.hbm, 362, rfl⟩
abbrev main_v185 : Ref sig .tc := ⟨.hbm, 363, rfl⟩
abbrev main_v186 : Ref sig .tc := ⟨.hbm, 364, rfl⟩
abbrev main_v187 : Ref sig .tc := ⟨.hbm, 365, rfl⟩
abbrev main_v188 : Ref sig .tc := ⟨.hbm, 366, rfl⟩
abbrev main_v189 : Ref sig .tc := ⟨.hbm, 367, rfl⟩
abbrev main_v190 : Ref sig .tc := ⟨.hbm, 368, rfl⟩
abbrev main_c_39 : Ref sig .tc := ⟨.hbm, 369, rfl⟩
abbrev main_v191 : Ref sig .tc := ⟨.hbm, 370, rfl⟩
abbrev main_v192 : Ref sig .tc := ⟨.hbm, 371, rfl⟩
abbrev main_c_40 : Ref sig .tc := ⟨.hbm, 372, rfl⟩
abbrev main_v193 : Ref sig .tc := ⟨.hbm, 373, rfl⟩
abbrev main_v194 : Ref sig .tc := ⟨.hbm, 374, rfl⟩
abbrev main_v195 : Ref sig .tc := ⟨.hbm, 375, rfl⟩
abbrev main_c_41 : Ref sig .tc := ⟨.hbm, 376, rfl⟩
abbrev main_v196 : Ref sig .tc := ⟨.hbm, 377, rfl⟩
abbrev main_v197 : Ref sig .tc := ⟨.hbm, 378, rfl⟩
abbrev main_c_42 : Ref sig .tc := ⟨.hbm, 379, rfl⟩
abbrev main_v198 : Ref sig .tc := ⟨.hbm, 380, rfl⟩
abbrev main_v199 : Ref sig .tc := ⟨.hbm, 381, rfl⟩
abbrev main_v200 : Ref sig .tc := ⟨.hbm, 382, rfl⟩
abbrev main_c_43 : Ref sig .tc := ⟨.hbm, 383, rfl⟩
abbrev main_v201 : Ref sig .tc := ⟨.hbm, 384, rfl⟩
abbrev main_v202 : Ref sig .tc := ⟨.hbm, 385, rfl⟩
abbrev main_v203 : Ref sig .tc := ⟨.hbm, 386, rfl⟩
abbrev main_c_44 : Ref sig .tc := ⟨.hbm, 387, rfl⟩
abbrev main_v204 : Ref sig .tc := ⟨.hbm, 388, rfl⟩
abbrev main_v205 : Ref sig .tc := ⟨.hbm, 389, rfl⟩
abbrev main_v206 : Ref sig .tc := ⟨.hbm, 390, rfl⟩
abbrev main_c_45 : Ref sig .tc := ⟨.hbm, 391, rfl⟩
abbrev main_c_46 : Ref sig .tc := ⟨.hbm, 392, rfl⟩
abbrev main_call12_v0 : Ref sig .tc := ⟨.hbm, 393, rfl⟩
abbrev main_call12_v1 : Ref sig .tc := ⟨.hbm, 394, rfl⟩
abbrev main_call12_v2 : Ref sig .tc := ⟨.hbm, 395, rfl⟩
abbrev main_call12_v3 : Ref sig .tc := ⟨.hbm, 396, rfl⟩
abbrev main_call12_v4 : Ref sig .tc := ⟨.hbm, 397, rfl⟩
abbrev main_v207 : Ref sig .tc := ⟨.hbm, 398, rfl⟩
abbrev main_c_47 : Ref sig .tc := ⟨.hbm, 399, rfl⟩
abbrev main_v208 : Ref sig .tc := ⟨.hbm, 400, rfl⟩
abbrev main_v209 : Ref sig .tc := ⟨.hbm, 401, rfl⟩
abbrev main_c_48 : Ref sig .tc := ⟨.hbm, 402, rfl⟩
abbrev main_c_49 : Ref sig .tc := ⟨.hbm, 403, rfl⟩
abbrev main_call13_v0 : Ref sig .tc := ⟨.hbm, 404, rfl⟩
abbrev main_call13_v1 : Ref sig .tc := ⟨.hbm, 405, rfl⟩
abbrev main_call13_v2 : Ref sig .tc := ⟨.hbm, 406, rfl⟩
abbrev main_call13_v3 : Ref sig .tc := ⟨.hbm, 407, rfl⟩
abbrev main_call13_v4 : Ref sig .tc := ⟨.hbm, 408, rfl⟩
abbrev main_v210 : Ref sig .tc := ⟨.hbm, 409, rfl⟩
abbrev main_v211 : Ref sig .tc := ⟨.hbm, 410, rfl⟩
abbrev main_v212 : Ref sig .tc := ⟨.hbm, 411, rfl⟩
abbrev main_call14_c : Ref sig .tc := ⟨.hbm, 412, rfl⟩
abbrev main_call14_v0 : Ref sig .tc := ⟨.hbm, 413, rfl⟩
abbrev main_call14_v1 : Ref sig .tc := ⟨.hbm, 414, rfl⟩
abbrev main_call14_c_0 : Ref sig .tc := ⟨.hbm, 415, rfl⟩
abbrev main_call14_v2 : Ref sig .tc := ⟨.hbm, 416, rfl⟩
abbrev main_call14_v3 : Ref sig .tc := ⟨.hbm, 417, rfl⟩
abbrev main_call14_v4 : Ref sig .tc := ⟨.hbm, 418, rfl⟩
abbrev main_call14_v5 : Ref sig .tc := ⟨.hbm, 419, rfl⟩
abbrev main_call14_c_1 : Ref sig .tc := ⟨.hbm, 420, rfl⟩
abbrev main_call14_c_2 : Ref sig .tc := ⟨.hbm, 421, rfl⟩
abbrev main_call14_v6 : Ref sig .tc := ⟨.hbm, 422, rfl⟩
abbrev main_call14_v7 : Ref sig .tc := ⟨.hbm, 423, rfl⟩
abbrev main_call14_v8 : Ref sig .tc := ⟨.hbm, 424, rfl⟩
abbrev main_call14_v9 : Ref sig .tc := ⟨.hbm, 425, rfl⟩
abbrev main_call14_v10 : Ref sig .tc := ⟨.hbm, 426, rfl⟩
abbrev main_call14_v11 : Ref sig .tc := ⟨.hbm, 427, rfl⟩
abbrev main_call14_c_3 : Ref sig .tc := ⟨.hbm, 428, rfl⟩
abbrev main_call14_v12 : Ref sig .tc := ⟨.hbm, 429, rfl⟩
abbrev main_call14_v13 : Ref sig .tc := ⟨.hbm, 430, rfl⟩
abbrev main_call14_v14 : Ref sig .tc := ⟨.hbm, 431, rfl⟩
abbrev main_call14_cst : Ref sig .tc := ⟨.hbm, 432, rfl⟩
abbrev main_call14_v15 : Ref sig .tc := ⟨.hbm, 433, rfl⟩
abbrev main_v213 : Ref sig .tc := ⟨.hbm, 434, rfl⟩
abbrev main_v214 : Ref sig .tc := ⟨.hbm, 435, rfl⟩
abbrev main_v215 : Ref sig .tc := ⟨.hbm, 436, rfl⟩
abbrev main_v216 : Ref sig .tc := ⟨.hbm, 437, rfl⟩
abbrev main_v217 : Ref sig .tc := ⟨.hbm, 438, rfl⟩
abbrev main_v218 : Ref sig .tc := ⟨.hbm, 439, rfl⟩
abbrev main_v219 : Ref sig .tc := ⟨.hbm, 440, rfl⟩
abbrev main_v220 : Ref sig .tc := ⟨.hbm, 441, rfl⟩
abbrev main_v221 : Ref sig .tc := ⟨.hbm, 442, rfl⟩
abbrev main_v222 : Ref sig .tc := ⟨.hbm, 443, rfl⟩
abbrev main_v223 : Ref sig .tc := ⟨.hbm, 444, rfl⟩

abbrev nD : Nat := 1
abbrev τ : Topo := Topo.v7x

variable {F : FTy → Type} [FloatOps F]
-- ==== Proof.Tables.lean ====
/-
  THE POSITION TABLES the kernel is launched with: row and column of every pixel, as f32 words. Each word is the natural
  number it stands for (`lit0_row`, `lit0_col`, `lit1_col`, `lit2_row`, `lit2_col`), at every pixel.
-/
module

public import proofs.«01_k».proof.Proof.Gen.KernelIdeal
public import Idealize.ShloMosaic.PureOps.Ideal

@[expose] public section

set_option maxRecDepth 16384

noncomputable section

namespace Cert.Proof

open Idealize.ShloMosaic Cert.KernelIdeal

/-- The f32 word `w` is the natural number `n`: the word is zero and so is `n`, or it is positive, its exponent is in
    the range of the integers below 2²⁴, and its significand is `n` shifted up by what the exponent leaves. -/
def IsNat (w : BitVec 32) (n : ℕ) : Prop :=
  (w = 0#32 ∧ n = 0) ∨
    (w.extractLsb' 31 1 = 0#1 ∧ 1 ≤ (w.extractLsb' 23 8).toNat ∧ (w.extractLsb' 23 8).toNat ≤ 150 ∧
      2 ^ 23 + (w.extractLsb' 0 23).toNat = n * 2 ^ (150 - (w.extractLsb' 23 8).toNat))

instance (w : BitVec 32) (n : ℕ) : Decidable (IsNat w n) := by unfold IsNat; infer_instance

/-- Such a word denotes that number. -/
theorem IsNat.ofBits {w : BitVec 32} {n : ℕ} (h : IsNat w n) : Ideal.ofBits .f32 w = ((n : ℝ) : EReal) := by
  rcases h with ⟨rfl, rfl⟩ | ⟨hs, h1, h2, h3⟩
  · simp [Ideal.ofBits, Ideal.ieee]
  · show Ideal.ieee 8 23 w = _
    unfold Ideal.ieee
    simp only [show (8 + 23 : ℕ) = 31 from rfl, hs]
    rw [if_neg (by omega), if_neg (by omega)]
    congr 1
    rw [h3]
    have e : ((2 : ℝ) ^ (((w.extractLsb' 23 8).toNat : ℤ) - (2 ^ (8 - 1) - 1) - (23 : ℕ)))
        = ((2 : ℝ) ^ (150 - (w.extractLsb' 23 8).toNat))⁻¹ := by
      rw [← zpow_natCast, ← zpow_neg]; congr 1; push_cast [Nat.cast_sub h2]; ring
    rw [e]
    push_cast
    field_simp

/-- Column 0 of the table of two columns: the pixel's row. -/
theorem lit0_row : ∀ y x : Fin 56, IsNat (lit0 ⟨(y.val * 56 + x.val) * 2, by omega⟩) y.val := by decide +kernel

/-- Column 1 of the table of two columns: the pixel's column. -/
theorem lit0_col : ∀ y x : Fin 56, IsNat (lit0 ⟨(y.val * 56 + x.val) * 2 + 1, by omega⟩) x.val := by decide +kernel

/-- The table of one column: the pixel's column. -/
theorem lit1_col : ∀ y x : Fin 56, IsNat (lit1 ⟨y.val * 56 + x.val, by omega⟩) x.val := by decide +kernel

/-- Row 0 of the table of two rows: the pixel's row. -/
theorem lit2_row : ∀ y x : Fin 56, IsNat (lit2 ⟨y.val * 56 + x.val, by omega⟩) y.val := by decide +kernel

/-- Row 1 of the table of two rows: the pixel's column. -/
theorem lit2_col : ∀ y x : Fin 56, IsNat (lit2 ⟨3136 + (y.val * 56 + x.val), by omega⟩) x.val := by decide +kernel

end Cert.Proof

end
-- ==== Proof.Entry.lean ====
module

public import proofs.«01_k».proof.Proof.Gen.KernelIdeal.Frame
public import proofs.«01_k».proof.Proof.Tables
public import Idealize.ShloMosaic.Lib.Claim
public import Idealize.ShloMosaic.Lib.Pointwise
public import Idealize.ShloMosaic.Lib.Pipeline.ValueKit

/-! What the kernel's blocks hold: each block it loads, read at an index, as an argument or a pixel's coordinate. -/

@[expose] public section

set_option maxRecDepth 16384

noncomputable section

namespace Cert.Proof

open Idealize.ShloMosaic Idealize.ShloMosaic.TcCoe

/-- Image `b` of the batch by channel and flat pixel. -/
def imgAt (x : Vec Ideal ⟨4, ![4, 256, 56, 56]⟩ .f32) (b : Fin 4) (i : Fin 256) (q : Fin 3136) : EReal :=
  x (ix4 b i ⟨q.val / 56, by omega⟩ ⟨q.val % 56, by omega⟩)

/-- The offset convolution's filter by offset channel, channel and tap. -/
def filtAt (w : Vec Ideal ⟨4, ![18, 256, 3, 3]⟩ .f32) (k : Fin 18) (i : Fin 256) (j : Fin 9) : EReal :=
  w (ix4 k i ⟨j.val / 3, by omega⟩ ⟨j.val % 3, by omega⟩)

/-- The offset convolution's bias by offset channel. -/
def biasAt (b : Vec Ideal ⟨1, ![18]⟩ .f32) (k : Fin 18) : EReal := b (ix1 k)

/-- The weight by output channel, channel and tap. -/
def wgtAt (w : Vec Ideal ⟨4, ![256, 256, 3, 3]⟩ .f32) (o : Fin 256) (i : Fin 256) (k : Fin 9) : EReal :=
  w (ix4 o i ⟨k.val / 3, by omega⟩ ⟨k.val % 3, by omega⟩)

/-- A table of pixel coordinates, entry by entry of the image, is the coordinate at every flat pixel. -/
theorem table_at (f : Fin 3136 → BitVec 32) (g : ℕ → ℕ → ℕ)
    (h : ∀ y x : Fin 56, IsNat (f ⟨y.val * 56 + x.val, by omega⟩) (g y.val x.val)) (q : Fin 3136) :
    Ideal.ofBits .f32 (f q) = (((g (q.val / 56) (q.val % 56) : ℕ) : ℝ) : EReal) := by
  have e : (⟨q.val / 56 * 56 + q.val % 56, by omega⟩ : Fin 3136) = q := Fin.ext (by simp only []; omega)
  have := h ⟨q.val / 56, by omega⟩ ⟨q.val % 56, by omega⟩
  rw [e] at this
  exact this.ofBits

open Cert.KernelIdeal Cert.KernelIdeal.Gen

variable (m : (ℓ : Loc nD τ sig) → Buf (Elt Ideal) ℓ) (c : Dev nD)

/-- Where each grid point's blocks lie: four consecutive points share an image, each takes one tile of it. -/
theorem idx : ∀ t : Fin cfg0.N, win0_0.index t = ![t.val / 4, 0, 0] ∧ win0_1.index t = ![t.val / 4, 0, 0]
    ∧ win0_2.index t = ![0, 0, 0] ∧ win0_3.index t = ![0, 0] ∧ win0_4.index t = ![0, 0] ∧ win0_5.index t = ![t.val % 4, 0]
    ∧ win0_6.index t = ![0, 0] ∧ win0_7.index t = ![0, 0] ∧ win0_8.index t = ![t.val / 4, t.val % 4, 0] :=
  (by decide +kernel : ∀ t : Fin grid0.N, _)

/-- The scratch rows a point reads are its tile's. -/
theorem scratch_off : ∀ t : Fin cfg0.N, k0_off1 (grid0.coords t) = ![t.val % 4 * 784, 0] :=
  (by decide +kernel : ∀ t : Fin grid0.N, _)

/-- The grid has sixteen points. -/
theorem lt_points (t : Fin cfg0.N) : t.val < 16 := t.isLt

/-- The image as the kernel is given it: channels last, pixels flat. -/
theorem entry_img (b : Fin 4) (q : Fin 3136) (i : Fin 256) :
    (show Vec Ideal S4x3136x256 .f32 from V m c main_call0_v1) (ix3 b q i) = imgAt (m ((c : Thread nD τ).loc main_arg0)) b i q := by
  simp only [V, V0, List.flatten_cons, List.flatten_nil, List.append_nil]
  entry_read
  simp only [StableHlo.TRef.toBuf, StableHlo.TRef.ofBuf, cast_eq]
  pointwise
  rfl

/-- The image's copy in half precision holds the same numbers. -/
theorem entry_img_half (b : Fin 4) (q : Fin 3136) (i : Fin 256) :
    (show Vec Ideal S4x3136x256 .bf16 from V m c main_call0_v8) (ix3 b q i) = imgAt (m ((c : Thread nD τ).loc main_arg0)) b i q := by
  rw [← entry_img]
  simp only [V, V0, List.flatten_cons, List.flatten_nil, List.append_nil]
  entry_read
  rfl

/-- The offset filter as the kernel is given it: taps first, offset channels last. -/
theorem entry_filt (j : Fin 9) (i : Fin 256) (k : Fin 18) :
    (show Vec Ideal S9x256x18 .f32 from V m c main_call0_v3) (ix3 j i k) = filtAt (m ((c : Thread nD τ).loc main_arg2)) k i j := by
  simp only [V, V0, List.flatten_cons, List.flatten_nil, List.append_nil]
  entry_read
  simp only [StableHlo.TRef.toBuf, StableHlo.TRef.ofBuf, cast_eq]
  pointwise
  rfl

/-- The bias as the kernel is given it. -/
theorem entry_bias (k : Fin 18) :
    (show Vec Ideal S1x18 .f32 from V m c main_call0_v4) (ix2 0 k) = biasAt (m ((c : Thread nD τ).loc main_arg3)) k := by
  simp only [V, V0, List.flatten_cons, List.flatten_nil, List.append_nil]
  entry_read
  pointwise
  rfl

/-- The weight as the kernel is given it: a row for each tap and channel. -/
theorem entry_wgt (x : Fin 2304) (o : Fin 256) :
    (show Vec Ideal S2304x256 .f32 from V m c main_call0_v7) (ix2 x o)
      = wgtAt (m ((c : Thread nD τ).loc main_arg1)) o ⟨x.val % 256, by omega⟩ ⟨x.val / 256, by omega⟩ := by
  simp only [V, V0, List.flatten_cons, List.flatten_nil, List.append_nil]
  entry_read
  simp only [StableHlo.TRef.toBuf, StableHlo.TRef.ofBuf, cast_eq]
  pointwise
  rfl

/-- The table of two columns, as the kernel is given it. -/
theorem entry_pix (p : Fin 3136) (k : Fin 2) :
    (show Vec Ideal S3136x2 .f32 from V m c main_call0_cst) (ix2 p k)
      = Ideal.ofBits .f32 (lit0 ⟨p.val * 2 + k.val, by omega⟩) := by
  simp only [V, V0, List.flatten_cons, List.flatten_nil, List.append_nil]
  entry_read
  simp only [StableHlo.TRef.toBuf, StableHlo.TRef.ofBuf, cast_eq]
  pointwise
  exact congrArg (fun n => Ideal.ofBits .f32 (lit0 n)) (Fin.ext (Shape.rowMajor_val_two _))

/-- The table of one column, as the kernel is given it. -/
theorem entry_col (p : Fin 3136) :
    (show Vec Ideal S3136x1 .f32 from V m c main_call0_cst_0) (ix2 p 0) = Ideal.ofBits .f32 (lit1 p) := by
  simp only [V, V0, List.flatten_cons, List.flatten_nil, List.append_nil]
  entry_read
  simp only [StableHlo.TRef.toBuf, StableHlo.TRef.ofBuf, cast_eq]
  pointwise
  exact congrArg (fun n => Ideal.ofBits .f32 (lit1 n)) (Fin.ext ((Shape.rowMajor_val_two _).trans (Nat.mul_one _)))

/-- The table of two rows, as the kernel is given it. -/
theorem entry_rows (k : Fin 2) (p : Fin 3136) :
    (show Vec Ideal S2x3136 .f32 from V m c main_call0_cst_1) (ix2 k p)
      = Ideal.ofBits .f32 (lit2 ⟨k.val * 3136 + p.val, by omega⟩) := by
  simp only [V, V0, List.flatten_cons, List.flatten_nil, List.append_nil]
  entry_read
  simp only [StableHlo.TRef.toBuf, StableHlo.TRef.ofBuf, cast_eq]
  pointwise
  exact congrArg (fun n => Ideal.ofBits .f32 (lit2 n)) (Fin.ext (Shape.rowMajor_val_two _))

/-- Part `j` of a stack of nine blocks, loaded and read at an index. -/
theorem ld_tap (B : Vec Ideal S9x256x18 .f32) (j : Fin 9) (i : Fin 256) (k : Fin 18) (h) :
    View.ld B (Rect.unit (s := S9x256x18) ![j.val, 0, 0] ![1, 256, 18] h) (ix3 (0 : Fin 1) i k) = B (ix3 j i k) :=
  View.ld_unit_apply_of _ _ _ _ _ _ (by intro a; fin_cases a <;> simp)

/-- Column `k` of a table of pixels, loaded and read at an index. -/
theorem ld_col (B : Vec Ideal S784x2 .f32) (k : Fin 2) (r : Fin 784) (h) :
    View.ld B (Rect.unit (s := S784x2) ![0, k.val] ![784, 1] h) (ix2 r (0 : Fin 1)) = B (ix2 r k) :=
  View.ld_unit_apply_of _ _ _ _ _ _ (by intro a; fin_cases a <;> simp)

/-- Row `k` of a table of pixels, loaded and read at an index. -/
theorem ld_row (B : Vec Ideal S2x3136 .f32) (k : Fin 2) (q : Fin 3136) (h) :
    View.ld B (Rect.unit (s := S2x3136) ![k.val, 0] ![1, 3136] h) (ix2 (0 : Fin 1) q) = B (ix2 k q) :=
  View.ld_unit_apply_of _ _ _ _ _ _ (by intro a; fin_cases a <;> simp)

variable (t : Fin cfg0.N)

/-- The image a point works on. -/
def img : Fin 4 := ⟨t.val / 4, by have := lt_points t; omega⟩

/-- Row `r` of a point's tile, as a pixel. -/
def pix (r : Fin 784) : Fin 3136 := ⟨t.val % 4 * 784 + r.val, by omega⟩

/-- The point's image block. -/
theorem blk_img (q : Fin 3136) (i : Fin 256) : (show Vec Ideal S1x3136x256 .f32 from iblk m c 0 t) (ix3 0 q i)
    = imgAt (m ((c : Thread nD τ).loc main_arg0)) (img t) i q := by
  rw [← entry_img]
  simp only [iblk]
  blk_ext [idx t, img]

/-- The point's image block in half precision. -/
theorem blk_img_half (q : Fin 3136) (i : Fin 256) : (show Vec Ideal S1x3136x256 .bf16 from iblk m c 1 t) (ix3 0 q i)
    = imgAt (m ((c : Thread nD τ).loc main_arg0)) (img t) i q := by
  rw [← entry_img_half]
  simp only [iblk]
  blk_ext [idx t, img]

/-- Tap `j` of the offset filter, as a point loads it. -/
theorem blk_filt (j : Fin 9) (i : Fin 256) (k : Fin 18) :
    (show Vec Ideal S9x256x18 .f32 from iblk m c 2 t) (ix3 j i k) = filtAt (m ((c : Thread nD τ).loc main_arg2)) k i j := by
  rw [← entry_filt]
  simp only [iblk]
  blk_ext [idx t]

/-- The bias block. -/
theorem blk_bias (k : Fin 18) : (show Vec Ideal S1x18 .f32 from iblk m c 3 t) (ix2 0 k)
    = biasAt (m ((c : Thread nD τ).loc main_arg3)) k := by
  rw [← entry_bias]
  simp only [iblk]
  blk_ext [idx t]

/-- The weight block. -/
theorem blk_wgt (x : Fin 2304) (o : Fin 256) : (show Vec Ideal S2304x256 .f32 from iblk m c 4 t) (ix2 x o)
    = wgtAt (m ((c : Thread nD τ).loc main_arg1)) o ⟨x.val % 256, by omega⟩ ⟨x.val / 256, by omega⟩ := by
  rw [← entry_wgt]
  simp only [iblk]
  blk_ext [idx t]

/-- The tile's rows of pixels. -/
theorem blk_row (r : Fin 784) :
    (show Vec Ideal S784x2 .f32 from iblk m c 5 t) (ix2 r 0)
      = ((((pix t r).val / 56 : ℕ) : ℝ) : EReal) := by
  refine Eq.trans ?_ ((entry_pix m c (pix t r) 0).trans (table_at (fun p => lit0 ⟨p.val * 2, by omega⟩) (fun y _ => y)
    lit0_row (pix t r)))
  simp only [iblk]
  blk_ext [idx t, pix]

/-- The tile's columns of pixels. -/
theorem blk_col (r : Fin 784) :
    (show Vec Ideal S784x2 .f32 from iblk m c 5 t) (ix2 r 1)
      = ((((pix t r).val % 56 : ℕ) : ℝ) : EReal) := by
  refine Eq.trans ?_ ((entry_pix m c (pix t r) 1).trans (table_at (fun p => lit0 ⟨p.val * 2 + 1, by omega⟩) (fun _ x => x)
    lit0_col (pix t r)))
  simp only [iblk]
  blk_ext [idx t, pix]

/-- The columns of all pixels, one to a row. -/
theorem blk_cols (q : Fin 3136) : (show Vec Ideal S3136x1 .f32 from iblk m c 6 t) (ix2 q 0)
    = (((q.val % 56 : ℕ) : ℝ) : EReal) := by
  refine Eq.trans ?_ ((entry_col m c q).trans (table_at lit1 (fun _ x => x) lit1_col q))
  simp only [iblk]
  blk_ext [idx t]

/-- The rows of all pixels, in one row. -/
theorem blk_all_row (q : Fin 3136) :
    (show Vec Ideal S2x3136 .f32 from iblk m c 7 t) (ix2 0 q)
      = (((q.val / 56 : ℕ) : ℝ) : EReal) := by
  refine Eq.trans ?_ ((entry_rows m c 0 q).trans ((congrArg (fun n => Ideal.ofBits .f32 (lit2 n)) (Fin.ext (by simp only []; simp))).trans
    (table_at (fun p => lit2 ⟨p.val, by omega⟩) (fun y _ => y) lit2_row q)))
  simp only [iblk]
  blk_ext [idx t]

/-- The columns of all pixels, in one row. -/
theorem blk_all_col (q : Fin 3136) :
    (show Vec Ideal S2x3136 .f32 from iblk m c 7 t) (ix2 1 q)
      = (((q.val % 56 : ℕ) : ℝ) : EReal) := by
  refine Eq.trans ?_ ((entry_rows m c 1 q).trans ((congrArg (fun n => Ideal.ofBits .f32 (lit2 n)) (Fin.ext (by simp only []; simp))).trans
    (table_at (fun p => lit2 ⟨3136 + p.val, by omega⟩) (fun _ x => x) lit2_col q)))
  simp only [iblk]
  blk_ext [idx t]

/-- The rows of the scratch a point loads are its tile's. -/
theorem ld_scratch (S : Vec Ideal S3136x18 .f32) (r : Fin 784) (k : Fin 18) (h) :
    View.ld S (Rect.unit (s := S3136x18) (k0_off1 (grid0.coords t)) ![784, 18] h) (ix2 r k) = S (ix2 (pix t r) k) :=
  View.ld_unit_apply_of _ _ _ _ _ _ fun a => by
    refine Eq.trans ?_ (congrArg (· + ((ix2 r k : S784x18.Idx) a).val) (congrFun (scratch_off t) a).symm)
    fin_cases a <;> simp [pix]

end Cert.Proof

end
-- ==== Proof.Hat.lean ====
/-
  THE HAT AND BILINEAR INTERPOLATION over the extended reals.

  The kernel samples a 56 × 56 image at a fractional position by weighing EVERY pixel with a product of two
  hat functions; the reference reads the FOUR pixels around the position with bilinear weights, a pixel outside the
  image counting zero. This module proves the two are one number, at every position — the infinite ones included,
  and those whose integer part does not fit a word.

  Stated: `hat_corner` (one axis, one pixel: the hat is the weight of the lower corner, that of the upper corner, or
  zero) and `bilinear` (the sum over all pixels is the sum of the four corners).
-/
module

public import Idealize.ShloMosaic.PureOps.Ideal
public import Mathlib.Data.EReal.Operations
public import Mathlib.Algebra.BigOperators.Fin

@[expose] public section

noncomputable section

namespace Cert.Proof

open Idealize.ShloMosaic

/-- The hat: one at zero, falling linearly to zero at distance one, zero beyond. -/
def hat (z : EReal) : EReal := max 0 (1 - max z (-z))

/-- The word of the integer part of a position. -/
def lowWord (p : EReal) : BitVec 32 := Ideal.fptosi 32 (Ideal.liftRound Int.floor p)

/-- The distance of a position above its integer part's word. -/
def frac (p : EReal) : EReal := p - (((lowWord p).toInt : ℝ) : EReal)

/-! ### One axis -/

theorem lowWord_bot : (lowWord ⊥).toInt = -2 ^ 31 := by
  simp only [lowWord, Ideal.liftRound, Ideal.fptosi, Ideal.toIntClamped]; decide

theorem lowWord_top : (lowWord ⊤).toInt = 2 ^ 31 - 1 := by
  simp only [lowWord, Ideal.liftRound, Ideal.fptosi, Ideal.toIntClamped]; decide

theorem lowWord_coe (r : ℝ) : (lowWord (r : EReal)).toInt = max (-2 ^ 31) (min (2 ^ 31 - 1) ⌊r⌋) := by
  have h : lowWord (r : EReal) = BitVec.ofInt 32 (max (-2 ^ 31) (min (2 ^ 31 - 1) ⌊r⌋)) := by
    show BitVec.ofInt 32 (max (-(2 ^ (32 - 1) : Nat)) (min ((2 ^ (32 - 1) : Nat) - 1)
      (if (0 : ℝ) ≤ ((⌊r⌋ : ℤ) : ℝ) then ⌊((⌊r⌋ : ℤ) : ℝ)⌋ else ⌈((⌊r⌋ : ℤ) : ℝ)⌉))) = _
    rw [Int.floor_intCast, Int.ceil_intCast, ite_self]; norm_num
  rw [h, BitVec.toInt_ofInt_eq_self (by omega)]
  · simp
  · have := min_le_left (2 ^ 31 - 1 : ℤ) ⌊r⌋; omega

/-- The word after the integer part's. -/
theorem succ_toInt (w : BitVec 32) :
    (w + 1).toInt = if w.toInt = 2 ^ 31 - 1 then -2 ^ 31 else w.toInt + 1 := by
  have h1 : (1 : BitVec 32).toInt = 1 := by decide
  have hlo := BitVec.le_toInt w
  have hhi := BitVec.toInt_lt (x := w)
  rw [BitVec.toInt_add, h1, Int.bmod_def]
  split <;> split <;> omega

/-- The two corners of an axis are different pixels. -/
theorem succ_ne (w : BitVec 32) : (w + 1).toInt ≠ w.toInt := by
  rw [succ_toInt]; split <;> omega

theorem hat_real (s : ℝ) : hat (s : EReal) = ((max 0 (1 - |s|) : ℝ) : EReal) := by
  rw [hat, abs, ← EReal.coe_neg]; norm_cast

/-- One axis, one pixel: the hat at pixel `y` is the lower corner's weight when `y` is the position's integer part, the
    upper corner's when it is the next, and zero otherwise. -/
theorem hat_corner (p : EReal) (y : ℤ) (h0 : 0 ≤ y) (h1 : y < 56) :
    hat (((y : ℝ) : EReal) - p) =
      if (lowWord p).toInt = y then 1 - frac p
      else if (lowWord p + 1).toInt = y then frac p else 0 := by
  have hs := succ_toInt (lowWord p)
  induction p with
  | bot =>
    rw [lowWord_bot] at hs
    rw [if_neg (by rw [lowWord_bot]; omega), if_neg (by rw [hs]; norm_num; omega)]
    simp [hat]
  | top =>
    rw [lowWord_top] at hs
    rw [if_neg (by rw [lowWord_top]; omega), if_neg (by rw [hs]; norm_num; omega)]
    simp [hat]
  | coe r =>
    have hw := lowWord_coe r
    have hf0 := Int.floor_le r
    have hf1 := Int.lt_floor_add_one r
    have e : ((y : ℝ) : EReal) - (r : EReal) = (((y : ℝ) - r : ℝ) : EReal) := (EReal.coe_sub _ _).symm
    have et : frac (r : EReal) = ((r - ((lowWord (r : EReal)).toInt : ℝ) : ℝ) : EReal) := (EReal.coe_sub _ _).symm
    rw [e, hat_real, et]
    by_cases ha : (lowWord (r : EReal)).toInt = y
    · rw [if_pos ha, ha]
      have hfl : (⌊r⌋ : ℤ) = y := by omega
      rw [hfl] at hf0 hf1
      rw [show |(y : ℝ) - r| = r - y by rw [abs_sub_comm]; exact abs_of_nonneg (by linarith), max_eq_right (by linarith)]
      norm_cast
    · rw [if_neg ha]
      by_cases hb : (lowWord (r : EReal) + 1).toInt = y
      · rw [if_pos hb]
        have hne : (lowWord (r : EReal)).toInt ≠ 2 ^ 31 - 1 := by intro h; rw [if_pos h] at hs; omega
        rw [if_neg hne] at hs
        have hy : (lowWord (r : EReal)).toInt = y - 1 := by omega
        have hfl : (⌊r⌋ : ℤ) = y - 1 := by omega
        rw [hfl] at hf0 hf1
        push_cast at hf0 hf1
        rw [hy, abs_of_nonneg (by linarith), max_eq_right (by linarith)]
        push_cast
        exact congrArg Real.toEReal (by ring)
      · rw [if_neg hb]
        have h2 : (⌊r⌋ : ℤ) ≠ y := by intro h; apply ha; rw [hw]; omega
        have h3 : (⌊r⌋ : ℤ) + 1 ≠ y := by
          intro h; apply hb; rw [hs, if_neg (by omega)]; omega
        have h4 : (1 : ℝ) ≤ |(y : ℝ) - r| := by
          rcases lt_or_gt_of_ne h2 with h | h
          · have h5 : (⌊r⌋ : ℤ) + 1 + 1 ≤ y := by omega
            have h6 : ((⌊r⌋ : ℤ) : ℝ) + 1 + 1 ≤ (y : ℝ) := by exact_mod_cast h5
            rw [le_abs]; left; linarith
          · have h5 : y + 1 ≤ (⌊r⌋ : ℤ) := by omega
            have h6 : (y : ℝ) + 1 ≤ ((⌊r⌋ : ℤ) : ℝ) := by exact_mod_cast h5
            rw [le_abs]; right; linarith
        rw [max_eq_left (by linarith)]; rfl

/-! ### Two axes -/

/-- One corner of the bilinear read: the pixel the two words name weighed by `wt`, or zero where they name none. -/
def corner (X : Fin 3136 → EReal) (A B : BitVec 32) (wt : EReal) : EReal :=
  if h : (0 ≤ A.toInt ∧ A.toInt < 56) ∧ (0 ≤ B.toInt ∧ B.toInt < 56)
  then X ⟨(A.toInt * 56 + B.toInt).toNat, by omega⟩ * wt else 0

/-- A sum over all pixels of the weighed pixel the two words name is that corner. -/
theorem sum_corner (X : Fin 3136 → EReal) (A B : BitVec 32) (wt : EReal) :
    (∑ q : Fin 3136, if A.toInt = ((q.val / 56 : ℕ) : ℤ) ∧ B.toInt = ((q.val % 56 : ℕ) : ℤ) then X q * wt else 0)
      = corner X A B wt := by
  unfold corner
  split
  · rename_i h
    rw [Finset.sum_eq_single (⟨(A.toInt * 56 + B.toInt).toNat, by omega⟩ : Fin 3136)]
    · rw [if_pos (by constructor <;> simp only [] <;> omega)]
    · intro q _ hq
      rw [if_neg]
      rintro ⟨ha, hb⟩
      apply hq
      apply Fin.ext
      show q.val = (A.toInt * 56 + B.toInt).toNat
      omega
    · intro hq; exact absurd (Finset.mem_univ _) hq
  · rename_i h
    apply Finset.sum_eq_zero
    intro q _
    rw [if_neg]
    rintro ⟨ha, hb⟩
    apply h
    have := q.isLt
    omega

/-- Two axes: weighing every pixel with the two hats is reading the four corners with bilinear weights. -/
theorem bilinear (X : Fin 3136 → EReal) (py px : EReal) :
    (∑ q : Fin 3136, hat ((((q.val / 56 : ℕ) : ℝ) : EReal) - py) * hat ((((q.val % 56 : ℕ) : ℝ) : EReal) - px) * X q)
      = corner X (lowWord py) (lowWord px) ((1 - frac py) * (1 - frac px))
        + corner X (lowWord py) (lowWord px + 1) ((1 - frac py) * frac px)
        + corner X (lowWord py + 1) (lowWord px) (frac py * (1 - frac px))
        + corner X (lowWord py + 1) (lowWord px + 1) (frac py * frac px) := by
  simp only [← sum_corner, ← Finset.sum_add_distrib]
  refine Finset.sum_congr rfl fun q _ => ?_
  have hq := q.isLt
  have hy := hat_corner py ((q.val / 56 : ℕ) : ℤ) (by omega) (by omega)
  have hx := hat_corner px ((q.val % 56 : ℕ) : ℤ) (by omega) (by omega)
  rw [Int.cast_natCast] at hy hx
  rw [hy, hx]
  have ny := succ_ne (lowWord py)
  have nx := succ_ne (lowWord px)
  generalize (lowWord py).toInt = a at *
  generalize (lowWord py + 1).toInt = a' at *
  generalize (lowWord px).toInt = b at *
  generalize (lowWord px + 1).toInt = b' at *
  generalize ((q.val / 56 : ℕ) : ℤ) = y at *
  generalize ((q.val % 56 : ℕ) : ℤ) = x at *
  by_cases h1 : a = y <;> by_cases h2 : a' = y <;> by_cases h3 : b = x <;> by_cases h4 : b' = x <;>
    simp_all [mul_comm]

end Cert.Proof

end
-- ==== Proof.Spec.lean ====
/-
  THE DEFORMABLE CONVOLUTION as one formula over the extended reals, which the kernel's run and the reference's are both
  brought to: for one image of 256 channels and 3136 = 56 · 56 pixels (pixel `q` lies in row `q / 56`, column `q % 56`),
  the offset convolution (`off`), the position a tap samples (`posY`, `posX`), the sample (`samp`: every pixel weighed by the two
  hats) and the result (`out`).
-/
module

public import proofs.«01_k».proof.Proof.Hat

@[expose] public section

noncomputable section

namespace Cert.Proof

open Idealize.ShloMosaic

/-- The image read at row `R` and column `W` of its copy padded by one pixel of zeros all round. -/
def tap (X : Fin 256 → Fin 3136 → EReal) (i : Fin 256) (R W : ℕ) : EReal :=
  if h : (1 ≤ R ∧ R < 57) ∧ (1 ≤ W ∧ W < 57) then X i ⟨(R - 1) * 56 + (W - 1), by omega⟩ else 0

/-- Tap `j` of the offset convolution at pixel `p`: channel `i` of the padded image, `j / 3` rows and `j % 3` columns on,
    times the filter, over the channels. -/
def offTap (X : Fin 256 → Fin 3136 → EReal) (OW : Fin 18 → Fin 256 → Fin 9 → EReal) (p : Fin 3136) (c : Fin 18)
    (j : Fin 9) : EReal :=
  ∑ i : Fin 256, tap X i (p.val / 56 + j.val / 3) (p.val % 56 + j.val % 3) * OW c i j

/-- The offset channel `c` at pixel `p`: the nine taps and the bias. -/
def off (X : Fin 256 → Fin 3136 → EReal) (OW : Fin 18 → Fin 256 → Fin 9 → EReal) (OB : Fin 18 → EReal) (p : Fin 3136)
    (c : Fin 18) : EReal :=
  (∑ j : Fin 9, offTap X OW p c j) + OB c

/-- The row tap `k` samples at pixel `p`. -/
def posY (D : Fin 3136 → Fin 18 → EReal) (p : Fin 3136) (k : Fin 9) : EReal :=
  ((((p.val / 56 : ℕ) : ℝ) : EReal) + ((((k.val / 3 : ℕ) : ℝ) - 1 : ℝ) : EReal)) + D p ⟨2 * k.val, by omega⟩

/-- The column tap `k` samples at pixel `p`. -/
def posX (D : Fin 3136 → Fin 18 → EReal) (p : Fin 3136) (k : Fin 9) : EReal :=
  ((((p.val % 56 : ℕ) : ℝ) : EReal) + ((((k.val % 3 : ℕ) : ℝ) - 1 : ℝ) : EReal)) + D p ⟨2 * k.val + 1, by omega⟩

/-- The sample of channel `i` that tap `k` takes at pixel `p`: every pixel `q` weighed by the two hats. -/
def samp (X : Fin 256 → Fin 3136 → EReal) (D : Fin 3136 → Fin 18 → EReal) (p : Fin 3136) (k : Fin 9) (i : Fin 256) :
    EReal :=
  ∑ q : Fin 3136, hat ((((q.val / 56 : ℕ) : ℝ) : EReal) - posY D p k)
    * hat ((((q.val % 56 : ℕ) : ℝ) : EReal) - posX D p k) * X i q

/-- The result's channel `o` at pixel `p`: the samples times the filter, over the taps and the channels. -/
def out (X : Fin 256 → Fin 3136 → EReal) (D : Fin 3136 → Fin 18 → EReal) (Wt : Fin 256 → Fin 256 → Fin 9 → EReal)
    (p : Fin 3136) (o : Fin 256) : EReal :=
  ∑ k : Fin 9, ∑ i : Fin 256, samp X D p k i * Wt o i k

/-- The nine taps of the offset convolution, one by one. -/
theorem taps_nine (f : Fin 9 → EReal) : (∑ j : Fin 9, f j) = f 0 + f 1 + f 2 + f 3 + f 4 + f 5 + f 6 + f 7 + f 8 := by
  rw [Fin.sum_univ_castSucc, Fin.sum_univ_eight]; rfl

/-- The offset channel with its nine taps written out, the bias first. -/
theorem off_taps (X : Fin 256 → Fin 3136 → EReal) (OW : Fin 18 → Fin 256 → Fin 9 → EReal) (OB : Fin 18 → EReal)
    (p : Fin 3136) (c : Fin 18) :
    off X OW OB p c = OB c + (∑ i, tap X i (p.val / 56 + 0) (p.val % 56 + 0) * OW c i 0)
      + (∑ i, tap X i (p.val / 56 + 0) (p.val % 56 + 1) * OW c i 1)
      + (∑ i, tap X i (p.val / 56 + 0) (p.val % 56 + 2) * OW c i 2)
      + (∑ i, tap X i (p.val / 56 + 1) (p.val % 56 + 0) * OW c i 3)
      + (∑ i, tap X i (p.val / 56 + 1) (p.val % 56 + 1) * OW c i 4)
      + (∑ i, tap X i (p.val / 56 + 1) (p.val % 56 + 2) * OW c i 5)
      + (∑ i, tap X i (p.val / 56 + 2) (p.val % 56 + 0) * OW c i 6)
      + (∑ i, tap X i (p.val / 56 + 2) (p.val % 56 + 1) * OW c i 7)
      + (∑ i, tap X i (p.val / 56 + 2) (p.val % 56 + 2) * OW c i 8) := by
  rw [off, add_comm, taps_nine]
  simp only [← add_assoc]
  rfl

/-- A distance measured from a pixel and a tap, less the offset, is the distance from the position sampled. -/
theorem sub_pos (y r k : ℝ) (d : EReal) :
    ((y : EReal) - (r : EReal)) - ((k : EReal) + d) = (y : EReal) - (((r : EReal) + (k : EReal)) + d) := by
  induction d with
  | bot => simp [← EReal.coe_sub, ← EReal.coe_add]
  | top => simp [← EReal.coe_sub, ← EReal.coe_add]
  | coe d => norm_cast; ring

/-- The result as one sum over the 2304 pairs of a tap and a channel. -/
theorem out_flat (X : Fin 256 → Fin 3136 → EReal) (D : Fin 3136 → Fin 18 → EReal)
    (Wt : Fin 256 → Fin 256 → Fin 9 → EReal) (p : Fin 3136) (o : Fin 256) :
    out X D Wt p o = ∑ x : Fin 2304, samp X D p ⟨x.val / 256, by omega⟩ ⟨x.val % 256, by omega⟩
      * Wt o ⟨x.val % 256, by omega⟩ ⟨x.val / 256, by omega⟩ := by
  unfold out
  rw [← Fintype.sum_prod_type']
  refine Fintype.sum_equiv (finProdFinEquiv (m := 9) (n := 256)) _ _ fun ⟨k, i⟩ => ?_
  have e1 : ((finProdFinEquiv (m := 9) (n := 256)) (k, i)).val = i.val + 256 * k.val := rfl
  have e2 : (⟨((finProdFinEquiv (m := 9) (n := 256)) (k, i)).val / 256, by omega⟩ : Fin 9) = k :=
    Fin.ext (by rw [Fin.val_mk, e1]; omega)
  have e3 : (⟨((finProdFinEquiv (m := 9) (n := 256)) (k, i)).val % 256, by omega⟩ : Fin 256) = i :=
    Fin.ext (by rw [Fin.val_mk, e1]; omega)
  exact (congrArg₂ (fun a b => samp X D p a b * Wt o b a) e2 e3).symm

/-- The padded image read `a` rows and `b` columns on from pixel `p`'s upper-left neighbour, by the flat index: zero
    where the column leaves the image, and where the flat index does. -/
theorem tap_flat (X : Fin 256 → Fin 3136 → EReal) (i : Fin 256) (p : Fin 3136) (a b : ℕ) (ha : a < 3) (hb : b < 3) :
    tap X i (p.val / 56 + a) (p.val % 56 + b) =
      if 1 ≤ p.val % 56 + b ∧ p.val % 56 + b < 57 then
        if h : 57 ≤ p.val + (a * 56 + b) ∧ p.val + (a * 56 + b) < 3193 then
          X i ⟨p.val + (a * 56 + b) - 57, by omega⟩ else 0
      else 0 := by
  have hp := p.isLt
  unfold tap
  split_ifs <;> first | rfl | omega | (congr 2; omega)

end Cert.Proof

end
-- ==== Proof.Scratch.lean ====
/-
  THE OFFSET SCRATCH: what the kernel stores into its scratch at the first tile of an image is the offset convolution, at
  every pixel and offset channel (`scratch`).
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.Proof

open Idealize.ShloMosaic Cert.KernelIdeal Cert.KernelIdeal.Gen

/-- The mask of the taps to the left: one half is below a column exactly when the column is not the first. -/
theorem half_lt (n : ℕ) : Ideal.ofBits .f32 0x3F000000#32 < ((n : ℝ) : EReal) ↔ 1 ≤ n := by
  have e : Ideal.ofBits .f32 0x3F000000#32 = (((1 : ℝ) / 2 : ℝ) : EReal) := by
    simp [Ideal.ofBits, Ideal.ieee]
    rw [← EReal.coe_mul]
    norm_num
  rw [e, EReal.coe_lt_coe_iff]
  constructor
  · intro h; by_contra h0; have : n = 0 := by omega
    subst this; norm_num at h
  · intro h; have : (1 : ℝ) ≤ n := by exact_mod_cast h
    linarith

/-- The mask of the taps to the right: a column is below 54.5 exactly when it is not the last. -/
theorem lt_last (n : ℕ) : ((n : ℝ) : EReal) < Ideal.ofBits .f32 0x425A0000#32 ↔ n < 55 := by
  have e : Ideal.ofBits .f32 0x425A0000#32 = (((109 : ℝ) / 2 : ℝ) : EReal) := by
    simp [Ideal.ofBits, Ideal.ieee]
    rw [← EReal.coe_mul]
    norm_num
  rw [e, EReal.coe_lt_coe_iff]
  constructor
  · intro h; by_contra h0; have : (55 : ℝ) ≤ n := by exact_mod_cast (by omega : 55 ≤ n)
    linarith
  · intro h; have : (n : ℝ) ≤ 54 := by exact_mod_cast (by omega : n ≤ 54)
    linarith

/-- The scratch's store as a function of the blocks it reads: the image, the column table, the bias, the nine taps. -/
def offs (v0 : Vec Ideal S1x3136x256 .f32) (v245 : Vec Ideal S3136x1 .f32) (v247 : Vec Ideal S1x18 .f32)
    (w : Fin 9 → Vec Ideal S1x256x18 .f32) : FVec Ideal S3136x18 .f32 :=
  k0_pay9 v0 v245
    (k0_pay5 (k0_pay8 v0) v245 (k0_pay2 (k0_pay8 v0) v245 v247 (w 0) (w 1)) (k0_pay3 (k0_pay8 v0) v245) (k0_pay4 (w 2))
      (w 3) (w 4) (w 5))
    (k0_pay6 (k0_pay8 v0)) (Scalar.ofBits .f32 0x00000000#32) (k0_pay7 v245) (w 6) (w 7) (w 8)

/-- The scratch's store is the offset convolution. -/
theorem scratch (v0 : Vec Ideal S1x3136x256 .f32) (v245 : Vec Ideal S3136x1 .f32) (v247 : Vec Ideal S1x18 .f32)
    (w : Fin 9 → Vec Ideal S1x256x18 .f32)
    (X : Fin 256 → Fin 3136 → EReal) (OW : Fin 18 → Fin 256 → Fin 9 → EReal) (OB : Fin 18 → EReal)
    (hX : ∀ q i, v0 (ix3 0 q i) = X i q) (hcol : ∀ p : Fin 3136, v245 (ix2 p 0) = (((p.val % 56 : ℕ) : ℝ) : EReal))
    (hb : ∀ c, v247 (ix2 0 c) = OB c) (hw : ∀ j i c, w j (ix3 0 i c) = OW c i j) (p : Fin 3136) (c : Fin 18) :
    offs v0 v245 v247 w (ix2 p c) = off X OW OB p c := by
  unfold offs
  pointwise [k0_pay9, k0_pay8, k0_pay7, k0_pay6, k0_pay5, k0_pay4, k0_pay3, k0_pay2]
  simp only [hX, hcol, hb, hw, half_lt, lt_last]
  rw [off_taps]
  have hp := p.isLt
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) rfl ?_) ?_) ?_) ?_) ?_) ?_) ?_) ?_) ?_
  all_goals
    refine Finset.sum_congr rfl fun i _ => congrArg (· * _) ?_
    rw [tap_flat X i p _ _ (by omega) (by omega)]
    repeat' split
    all_goals first | rfl | omega | exact congrArg (X i) (Fin.ext (by simp only []; omega))

end Cert.Proof

end
-- ==== Proof.Block.lean ====
/-
  THE TILE'S STORE: what the kernel stores into its output at a grid point is the deformable convolution at the tile's 784
  pixels, given that the scratch's rows hold the offsets there (`tile`).
-/
module

public import proofs.«01_k».proof.Proof.Gen.KernelIdeal.Skeleton
public import proofs.«01_k».proof.Proof.Spec
public import Idealize.ShloMosaic.Lib.Pointwise

@[expose] public section

set_option maxRecDepth 16384
set_option maxHeartbeats 1000000

noncomputable section

namespace Cert.Proof

open Idealize.ShloMosaic Cert.KernelIdeal Cert.KernelIdeal.Gen

/-- The output's store as a function of the blocks it reads: the offsets' rows, the tile's rows and columns, every pixel's
    row and column, the image, the filter. -/
def tileOut (v7 : Vec Ideal S784x18 .f32) (v8 v9 : Vec Ideal S784x1 .f32) (v10 v11 : Vec Ideal S1x3136 .f32)
    (v12 : Vec Ideal S1x3136x256 .bf16) (v239 : Vec Ideal S2304x256 .f32) : FVec Ideal S1x784x256 .f32 :=
  let v13 := k0_pay10 v12
  let v17 := k0_pay11 v8 v10
  let v21 := k0_pay12 v9 v11
  k0_pay1 v13 v17 v21
    (k0_pay15 v13 v21 (k0_pay13 v7) (k0_pay14 v7 v8 v10) (Scalar.ofBits .bf16 0x0000#16))
    (k0_pay16 v7 v13 v17 v21)
    (k0_pay20 v13 v21 (k0_pay17 v7) (k0_pay18 v7 v17) k0_pay19)
    (k0_pay21 v7 v13 v17 v21)
    (k0_pay24 v13 v21 (k0_pay22 v7) (k0_pay23 v7 v17))
    (k0_pay25 v7 v13 v17 v21)
    (k0_pay28 v13 v17 v21 (k0_pay26 v7) (k0_pay27 v7))
    (k0_pay29 v7 v13 v17 v21)
    (k0_pay30 v7) (k0_pay31 v7) v239

theorem ofBits_neg_one : Ideal.ofBits .f32 0xBF800000#32 = ((-1 : ℝ) : EReal) := by
  simp [Ideal.ofBits, Ideal.ieee]
  rw [← EReal.coe_mul]
  norm_num

/-- One tap's sample as the kernel computes it: `ey` and `ex` are the tap's row and column less one, plus its offsets. -/
theorem samp_of (v8 v9 : Vec Ideal S784x1 .f32) (v10 v11 : Vec Ideal S1x3136 .f32) (v12 : Vec Ideal S1x3136x256 .bf16)
    (X : Fin 256 → Fin 3136 → EReal) (D : Fin 3136 → Fin 18 → EReal) (r : Fin 784) (p : Fin 3136)
    (h8 : v8 (ix2 r 0) = (((p.val / 56 : ℕ) : ℝ) : EReal)) (h9 : v9 (ix2 r 0) = (((p.val % 56 : ℕ) : ℝ) : EReal))
    (h10 : ∀ q : Fin 3136, v10 (ix2 0 q) = (((q.val / 56 : ℕ) : ℝ) : EReal))
    (h11 : ∀ q : Fin 3136, v11 (ix2 0 q) = (((q.val % 56 : ℕ) : ℝ) : EReal))
    (h12 : ∀ q i, v12 (ix3 0 q i) = X i q) (k' k : Fin 9)
    (i i' : Fin 256) (ey ex : EReal) (hk : k = k') (hi : i = i')
    (hy : ey = ((((k'.val / 3 : ℕ) : ℝ) - 1 : ℝ) : EReal) + D p ⟨2 * k'.val, by omega⟩)
    (hx : ex = ((((k'.val % 3 : ℕ) : ℝ) - 1 : ℝ) : EReal) + D p ⟨2 * k'.val + 1, by omega⟩) :
    (∑ q : Fin 3136,
      max 0 (1 - FloatOps.absf (F := Ideal) (φ := .bf16) (v10 (ix2 0 q) - v8 (ix2 r 0) - ey : EReal))
        * max 0 (1 - FloatOps.absf (F := Ideal) (φ := .bf16) (v11 (ix2 0 q) - v9 (ix2 r 0) - ex : EReal))
        * v12 (ix3 0 q i') : EReal) = samp X D p k i := by
  subst hk hi hy hx
  refine Finset.sum_congr rfl fun q _ => ?_
  rw [h8, h9, h10, h11, h12, sub_pos, sub_pos]
  rfl

/-- Both branches of a conditional equal to a number, so is the conditional. -/
theorem dite_both {P : Prop} [Decidable P] {a : P → EReal} {b : ¬P → EReal} {z : EReal} (ha : ∀ h, a h = z)
    (hb : ∀ h, b h = z) : dite P a b = z := by
  split
  · exact ha _
  · exact hb _

/-- The tile's store is the deformable convolution at the tile's pixel `r`, pixel `p` of the image. -/
theorem tile (v7 : Vec Ideal S784x18 .f32) (v8 v9 : Vec Ideal S784x1 .f32) (v10 v11 : Vec Ideal S1x3136 .f32)
    (v12 : Vec Ideal S1x3136x256 .bf16) (v239 : Vec Ideal S2304x256 .f32)
    (X : Fin 256 → Fin 3136 → EReal) (D : Fin 3136 → Fin 18 → EReal) (Wt : Fin 256 → Fin 256 → Fin 9 → EReal)
    (r : Fin 784) (p : Fin 3136) (o : Fin 256)
    (h7 : ∀ c, v7 (ix2 r c) = D p c)
    (h8 : v8 (ix2 r 0) = (((p.val / 56 : ℕ) : ℝ) : EReal)) (h9 : v9 (ix2 r 0) = (((p.val % 56 : ℕ) : ℝ) : EReal))
    (h10 : ∀ q : Fin 3136, v10 (ix2 0 q) = (((q.val / 56 : ℕ) : ℝ) : EReal))
    (h11 : ∀ q : Fin 3136, v11 (ix2 0 q) = (((q.val % 56 : ℕ) : ℝ) : EReal))
    (h12 : ∀ q i, v12 (ix3 0 q i) = X i q)
    (h239 : ∀ x : Fin 2304, v239 (ix2 x o) = Wt o ⟨x.val % 256, by omega⟩ ⟨x.val / 256, by omega⟩) :
    tileOut v7 v8 v9 v10 v11 v12 v239 (ix3 0 r o) = out X D Wt p o := by
  unfold tileOut
  pointwise [k0_pay1, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29,
    k0_pay30, k0_pay31]
  refine Eq.trans ?_ (out_flat X D Wt p o).symm
  refine Finset.sum_congr rfl fun x _ => congrArg₂ (· * ·) ?_ (h239 x)
  have hx := x.isLt
  have piece := samp_of v8 v9 v10 v11 v12 X D r p h8 h9 h10 h11 h12
  refine dite_both (fun _ => piece 0 _ _ _ _ _ ?_ ?_ ?_ ?_) fun _ => ?_
  on_goal 5 => refine dite_both (fun _ => piece 1 _ _ _ _ _ ?_ ?_ ?_ ?_) fun _ => ?_
  on_goal 9 => refine dite_both (fun _ => piece 2 _ _ _ _ _ ?_ ?_ ?_ ?_) fun _ => ?_
  on_goal 13 => refine dite_both (fun _ => piece 3 _ _ _ _ _ ?_ ?_ ?_ ?_) fun _ => ?_
  on_goal 17 => refine dite_both (fun _ => piece 4 _ _ _ _ _ ?_ ?_ ?_ ?_) fun _ => ?_
  on_goal 21 => refine dite_both (fun _ => piece 5 _ _ _ _ _ ?_ ?_ ?_ ?_) fun _ => ?_
  on_goal 25 => refine dite_both (fun _ => piece 6 _ _ _ _ _ ?_ ?_ ?_ ?_) fun _ => ?_
  on_goal 29 => refine dite_both (fun _ => piece 7 _ _ _ _ _ ?_ ?_ ?_ ?_) fun _ => piece 8 _ _ _ _ _ ?_ ?_ ?_ ?_
  all_goals first
    | (apply Fin.ext; simp only [Fin.val_mk, Fin.isValue]; omega)
    | (rw [h7]; norm_num [ofBits_neg_one]; done)
    | (rw [h7]; norm_num [ofBits_neg_one]; rfl)

end Cert.Proof

end
-- ==== Proof.KernelValue.lean ====
module

public import proofs.«01_k».proof.Proof.Entry
public import proofs.«01_k».proof.Proof.Scratch
public import proofs.«01_k».proof.Proof.Block
public import Idealize.ShloMosaic.Lib.Pipeline.ValueKit.Held
public import Idealize.ShloMosaic.Lib.Pipeline.ReadBack

/-! The kernel's result: every tile of every image, then the array of all of them, and the host's reordering of it. -/

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ) (c : Dev nD)

/-- The offsets of image `b`. -/
def offAt (b : Fin 4) : Fin 3136 → Fin 18 → EReal :=
  off (imgAt (m ((c : Thread nD τ).loc main_arg0)) b) (filtAt (m ((c : Thread nD τ).loc main_arg2)))
    (biasAt (m ((c : Thread nD τ).loc main_arg3)))

theorem tap_inb (j : Fin 9) : ∀ a : Fin S9x256x18.rank, (![j.val, 0, 0] : Fin 3 → ℕ) a + (![1, 256, 18] : Fin 3 → ℕ) a
    ≤ S9x256x18.size a := by
  intro a; fin_cases a <;> simp [S9x256x18] <;> omega

/-- Tap `j` of the offset filter, loaded at point `t`. -/
def tapBlk (t : Fin cfg0.N) (j : Fin 9) : Vec Ideal S1x256x18 .f32 :=
  View.ld (show Vec Ideal S9x256x18 .f32 from iblk m c 2 t) (Rect.unit (s := S9x256x18) ![j.val, 0, 0] ![1, 256, 18] (tap_inb j))

/-- What a point whose scratch is `S` stores in its tile. -/
def tileAt (t : Fin cfg0.N) (S : Vec Ideal S3136x18 .f32) : Vec Ideal S1x784x256 .f32 :=
  tileOut (View.ld S (Rect.unit (s := S3136x18) (k0_off1 (grid0.coords t)) ![784, 18] (k0_off1_inb (grid0.coords t))))
    (View.ld (show Vec Ideal S784x2 .f32 from iblk m c 5 t) (Rect.unit (s := S784x2) ![0, 0] ![784, 1] inb_S784x2_S784x1_0_0))
    (View.ld (show Vec Ideal S784x2 .f32 from iblk m c 5 t) (Rect.unit (s := S784x2) ![0, 1] ![784, 1] inb_S784x2_S784x1_0_1))
    (View.ld (show Vec Ideal S2x3136 .f32 from iblk m c 7 t) (Rect.unit (s := S2x3136) ![0, 0] ![1, 3136] inb_S2x3136_S1x3136_0_0))
    (View.ld (show Vec Ideal S2x3136 .f32 from iblk m c 7 t) (Rect.unit (s := S2x3136) ![1, 0] ![1, 3136] inb_S2x3136_S1x3136_1_0))
    (iblk m c 1 t) (iblk m c 4 t)

/-- The first point of an image leaves the image's offsets in the scratch. -/
theorem scratch_first (t : Fin cfg0.N) (h : t.val % 4 = 0) :
    (outsAt0 m c t.val t.isLt).2 = offs (iblk m c 0 t) (iblk m c 6 t) (iblk m c 3 t) (tapBlk m c t) := by
  rw [outsAt0_A m c t h]
  frame_out
  rfl

/-- The other points leave the scratch as they find it. -/
theorem scratch_held (t : Fin cfg0.N) (h : ¬ t.val % 4 = 0) :
    (outsAt0 m c t.val t.isLt).2
      = (outsAt0 m c (t.val - 1) (Nat.lt_of_le_of_lt (Nat.sub_le _ _) t.isLt)).2 := by
  rw [outsAt0_B m c t h]
  rfl

/-- Every point stores its tile from the scratch it leaves. -/
theorem tile_stored (t : Fin cfg0.N) : (outsAt0 m c t.val t.isLt).1 = tileAt m c t (outsAt0 m c t.val t.isLt).2 := by
  by_cases h : t.val % 4 = 0
  · rw [scratch_first m c t h, outsAt0_A m c t h]
    frame_out
    rfl
  · rw [scratch_held m c t h, outsAt0_B m c t h]
    frame_out
    simp only [read_unread_whole]
    rfl

/-- At every point the scratch holds the offsets of its image. -/
theorem scratch_at (t : Fin cfg0.N) (p : Fin 3136) (k : Fin 18) :
    (outsAt0 m c t.val t.isLt).2 (ix2 p k) = offAt m c (img t) p k := by
  have h4 : (4 * (t.val / 4)) % 4 = 0 := by omega
  have key := Pipeline.eq_of_write_hold (fun n h => (outsAt0 m c n h).2) 4
    (fun t => offs (iblk m c 0 t) (iblk m c 6 t) (iblk m c 3 t) (tapBlk m c t))
    (scratch_first m c) (scratch_held m c) t
  refine (congrFun key (ix2 p k)).trans ?_
  have hi : img (⟨4 * (t.val / 4), Pipeline.run_start_lt t⟩ : Fin cfg0.N) = img t :=
    Fin.ext (by simp only [img]; omega)
  rw [← hi]
  exact scratch _ _ _ _ _ _ _ (fun q i => blk_img m c _ q i) (fun q => blk_cols m c _ q) (fun k => blk_bias m c _ k)
    (fun j i k => (ld_tap _ j i k _).trans (blk_filt m c _ j i k)) p k

/-- A point's tile at row `r` and channel `o` is the result at the row's pixel. -/
theorem tile_at (t : Fin cfg0.N) (r : Fin 784) (o : Fin 256) :
    (outsAt0 m c t.val t.isLt).1 (ix3 0 r o)
      = out (imgAt (m ((c : Thread nD τ).loc main_arg0)) (img t)) (offAt m c (img t))
          (wgtAt (m ((c : Thread nD τ).loc main_arg1))) (pix t r) o := by
  rw [tile_stored]
  exact tile _ _ _ _ _ _ _ _ _ _ r (pix t r) o (fun k => (ld_scratch t _ r k _).trans (scratch_at m c t _ k))
    ((ld_col _ 0 r _).trans (blk_row m c t r)) ((ld_col _ 1 r _).trans (blk_col m c t r))
    (fun q => (ld_row _ 0 q _).trans (blk_all_row m c t q)) (fun q => (ld_row _ 1 q _).trans (blk_all_col m c t q))
    (fun q i => blk_img_half m c t q i) (fun x => blk_wgt m c t x o)

/-- The array of all tiles at image `b`, pixel `p` and channel `o`. -/
def resAt (b : Fin 4) (p : Fin 3136) (o : Fin 256) : EReal :=
  out (imgAt (m ((c : Thread nD τ).loc main_arg0)) b) (offAt m c b) (wgtAt (m ((c : Thread nD τ).loc main_arg1))) p o

/-- The array the grid leaves: every image's tiles in place. -/
theorem array_eq : (dats m 0 c).arrAt 8 cfg0.N
    = (show Vec Ideal S4x3136x256 .f32 from fun x => resAt m c (x 0) (x 1) (x 2)) := by
  generalize hG : (show Vec Ideal S4x3136x256 .f32 from fun x => resAt m c (x 0) (x 1) (x 2)) = G
  refine (dats m 0 c).arrAt_eq_of_covers 8 G (by decide +kernel) fun t hf y => ?_
  rw [after0_8]
  have hy : (show S1x784x256.Idx from y) = ix3 (0 : Fin 1) (y 1) (y 2) := by
    funext a
    fin_cases a
    · exact Subsingleton.elim (α := Fin 1) _ _
    · rfl
    · rfl
  refine (congrArg (outsAt0 m c t.val t.isLt).1 hy).trans ((tile_at m c t (y 1) (y 2)).trans ?_)
  refine (congrFun hG (ix3 (img t) (pix t (y 1)) (y 2))).trans ?_
  blk_ext [idx t, img, pix]

/-- The kernel's result, at an index. -/
theorem kernel_at (b : Fin 4) (o : Fin 256) (r w : Fin 56) :
    (show Vec Ideal S4x256x56x56 .f32 from
      Pipeline.afterTail₀ cfgs (dats m) 0 (V0 m) [hostOps1] c main_v0) (ix4 b o r w)
      = resAt m c b ⟨r.val * 56 + w.val, by omega⟩ o := by
  simp only [Pipeline.afterTail₀, List.flatten_cons, List.flatten_nil, List.append_nil]
  entry_read
  simp only [StableHlo.TRef.toBuf, StableHlo.TRef.ofBuf, cast_eq]
  pointwise
  have e := (Pipeline.withArrays_arr (cfgs 0).spec (by decide) c (V0 m c) (fun w => (dats m 0 c).arrAt w (cfgs 0).N) 8).trans
    (array_eq m c)
  exact congrFun e (ix3 b ⟨r.val * 56 + w.val, by omega⟩ o)

end Cert.Proof

end
-- ==== Proof.RefOffset.lean ====
module

public import proofs.«01_k».proof.Proof.Gen.ReferenceIdeal.Run
public import proofs.«01_k».proof.Proof.Entry
public import proofs.«01_k».proof.Proof.Spec
public import Idealize.ShloMosaic.Lib.Claim
public import Idealize.ShloMosaic.Lib.Pointwise
public import Idealize.ShloMosaic.Lib.Tactic.CleanTypes

/-! The reference's offsets: its convolution as nine shifted products of the padded image, read at an index. -/

@[expose] public section

set_option maxRecDepth 16384

noncomputable section

namespace Cert.Proof

open Idealize.ShloMosaic Idealize.ShloMosaic.TcCoe Cert.ReferenceIdeal Cert.ReferenceIdeal.Value

variable (U : Valuation τ sig (Elt Ideal))

/-- The reference's padded image at a row and a column. -/
theorem ref_pad (b : Fin 4) (i : Fin 256) (R W : Fin 58) : (res_main_v0 U : Vec Ideal S4x256x58x58 .f32) (ix4 b i R W)
    = tap (imgAt (U (Proc.devRef .tc main_arg0)) b) i R.val W.val := by
  unfold res_main_v0
  clean_types
  pointwise
  unfold tap imgAt
  by_cases h : (1 ≤ R.val ∧ R.val < 57) ∧ (1 ≤ W.val ∧ W.val < 57)
  · rw [dif_pos h, dif_pos (by omega)]
    refine congrArg _ ?_
    congr 1 <;> exact Fin.ext (by simp only []; omega)
  · rw [dif_neg h, dif_neg (by omega)]
    simp [FloatOps.sitofp]

/-- Tap `j` of the reference's offset convolution: `R` and `W` are where its slice begins, plus the pixel. -/
theorem ref_tap (x : Vec Ideal ⟨4, ![4, 256, 56, 56]⟩ .f32) (f : Vec Ideal ⟨4, ![18, 256, 3, 3]⟩ .f32) (b : Fin 4)
    (k : Fin 18) (r w : Fin 56) (j : Fin 9) (R W : ℕ) (hR : R = j.val / 3 + r.val) (hW : W = j.val % 3 + w.val) :
    (∑ i : Fin 256, f (ix4 k i ⟨j.val / 3, by omega⟩ ⟨j.val % 3, by omega⟩) * tap (imgAt x b) i R W : EReal)
      = offTap (imgAt x b) (filtAt f) ⟨r.val * 56 + w.val, by omega⟩ k j := by
  refine Finset.sum_congr rfl fun i _ => (mul_comm _ _).trans (congrArg₂ (· * ·) ?_ rfl)
  exact congrArg₂ (tap (imgAt x b) i) (by simp only []; omega) (by simp only []; omega)

/-- The reference's offset channel `k` at a pixel. -/
theorem ref_off (b : Fin 4) (k : Fin 18) (r w : Fin 56) : (res_main_v58 U : Vec Ideal S4x18x56x56 .f32) (ix4 b k r w)
    = off (imgAt (U (Proc.devRef .tc main_arg0)) b) (filtAt (U (Proc.devRef .tc main_arg2)))
        (biasAt (U (Proc.devRef .tc main_arg3))) ⟨r.val * 56 + w.val, by omega⟩ k := by
  unfold res_main_v58
  clean_types
  pointwise
  simp only [ref_pad]
  rw [off, taps_nine]
  exact congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·)
    (ref_tap _ _ b k r w 0 r w (by simp) (by simp)) (ref_tap _ _ b k r w 1 r (1 + w) (by simp) (by simp)))
    (ref_tap _ _ b k r w 2 r (2 + w) (by simp) (by simp)))
    (ref_tap _ _ b k r w 3 (1 + r) w (by simp) (by simp)))
    (ref_tap _ _ b k r w 4 (1 + r) (1 + w) (by simp) (by simp)))
    (ref_tap _ _ b k r w 5 (1 + r) (2 + w) (by simp) (by simp)))
    (ref_tap _ _ b k r w 6 (2 + r) w (by simp) (by simp)))
    (ref_tap _ _ b k r w 7 (2 + r) (1 + w) (by simp) (by simp)))
    (ref_tap _ _ b k r w 8 (2 + r) (2 + w) (by simp) (by simp))) rfl

end Cert.Proof

end
-- ==== Proof.RefPos.lean ====
module

public import proofs.«01_k».proof.Proof.Gen.ReferenceIdeal.Run
public import proofs.«01_k».proof.Proof.Entry
public import proofs.«01_k».proof.Proof.Spec
public import proofs.«01_k».proof.Proof.RefOffset
public import Idealize.ShloMosaic.Lib.Claim
public import Idealize.ShloMosaic.Lib.Pointwise
public import Idealize.ShloMosaic.Lib.Tactic.CleanTypes

/-! The positions the reference samples, their low corner's words and the fractions left over. -/

@[expose] public section

set_option maxRecDepth 16384

noncomputable section

namespace Cert.Proof

open Idealize.ShloMosaic Idealize.ShloMosaic.TcCoe Cert.ReferenceIdeal Cert.ReferenceIdeal.Value

/-- The row word of tap `k` at row `r`, as the reference's integer operations compute it (its floor division by `3`). -/
def rowWord (r : Fin 56) (k : Fin 9) : BitVec 32 :=
  IntOp.addi (IntOp.subi (IntOp.muli (BitVec.ofNat 32 r.val) 1#32) 1#32)
    (Scalar.select (IntOp.andi (IntOp.cmpi .ne (if BitVec.ofNat 32 k.val = 0 then 0
        else if (BitVec.ofNat 32 k.val).msb = true then -1 else 1)
        (if (3#32 : BitVec 32) = 0 then 0 else if BitVec.msb (3#32) = true then -1 else (1 : BitVec 32)))
        (IntOp.cmpi .ne (IntOp.remsi ArithUnit.host (BitVec.ofNat 32 k.val) 3#32) 0#32))
      (IntOp.subi (IntOp.divsi ArithUnit.host (BitVec.ofNat 32 k.val) 3#32) 1#32)
      (IntOp.divsi ArithUnit.host (BitVec.ofNat 32 k.val) 3#32))

/-- The remainder of the tap's number by `3`, as the reference's integer operations compute it before its sign is put
    right. -/
def remWord (k : Fin 9) : BitVec 32 :=
  IntOp.remsi ArithUnit.host (BitVec.ofNat 32 k.val) (Scalar.select (IntOp.cmpi .eq (3#32) 0#32) 1#32 (3#32))

/-- The column word of tap `k` at column `w`, as the reference's integer operations compute it. -/
def colWord (w : Fin 56) (k : Fin 9) : BitVec 32 :=
  IntOp.addi (IntOp.subi (IntOp.muli (BitVec.ofNat 32 w.val) 1#32) 1#32)
    (Scalar.select (IntOp.andi (IntOp.cmpi .ne (IntOp.cmpi .slt (remWord k) 0#32)
        (IntOp.cmpi .slt (Scalar.select (IntOp.cmpi .eq (3#32) 0#32) 1#32 (3#32)) 0#32))
        (IntOp.cmpi .ne (remWord k) 0#32))
      (IntOp.addi (remWord k) (Scalar.select (IntOp.cmpi .eq (3#32) 0#32) 1#32 (3#32))) (remWord k))

/-- The row word is `r + k / 3 - 1`. -/
theorem rowWord_eq : ∀ (r : Fin 56) (k : Fin 9),
    (rowWord r k).toInt = (r.val : ℤ) + (((k.val / 3 : ℕ) : ℤ) - 1) := by
  decide +kernel

/-- The column word is `w + k % 3 - 1`. -/
theorem colWord_eq : ∀ (w : Fin 56) (k : Fin 9),
    (colWord w k).toInt = (w.val : ℤ) + (((k.val % 3 : ℕ) : ℤ) - 1) := by
  decide +kernel

variable (U : Valuation τ sig (Elt Ideal))

/-- The offsets the reference computes for image `b`. -/
def refOff (b : Fin 4) : Fin 3136 → Fin 18 → EReal :=
  off (imgAt (U (Proc.devRef .tc main_arg0)) b) (filtAt (U (Proc.devRef .tc main_arg2)))
    (biasAt (U (Proc.devRef .tc main_arg3)))

/-- A word plus an offset is the position, once the word's value is known. -/
theorem word_pos (W : BitVec 32) (a k : ℕ) (d e : EReal) (h : W.toInt = (a : ℤ) + ((k : ℤ) - 1)) (hd : d = e) :
    (FloatOps.sitofp (F := Ideal) FTy.f32 W : EReal) + d = (((a : ℝ) : EReal) + (((k : ℝ) - 1 : ℝ) : EReal)) + e := by
  subst hd
  refine congrArg₂ (· + ·) ?_ rfl
  show ((W.toInt : ℝ) : EReal) = _
  rw [h, ← EReal.coe_add]
  push_cast
  rfl

/-- The row the reference samples. -/
theorem ref_py (b : Fin 4) (k : Fin 9) (r w : Fin 56) (p : Fin 3136) (hp : p.val = r.val * 56 + w.val) :
    (res_main_v89 U : Vec Ideal S4x1x9x56x56 .f32) (ix5 b 0 k r w) = posY (refOff U b) p k := by
  unfold res_main_v89 res_main_v59 res_main_call1_v2 res_main_v60 res_main_call1_v0
  clean_types
  pointwise
  refine word_pos (rowWord r k) (p.val / 56) (k.val / 3) _ _ ((rowWord_eq r k).trans (by omega)) ?_
  refine (ref_off U b _ r w).trans ?_
  exact congrArg₂ (refOff U b) (Fin.ext hp.symm) (Fin.ext (by simp only []; omega))

/-- The column the reference samples. -/
theorem ref_px (b : Fin 4) (k : Fin 9) (r w : Fin 56) (p : Fin 3136) (hp : p.val = r.val * 56 + w.val) :
    (res_main_v95 U : Vec Ideal S4x1x9x56x56 .f32) (ix5 b 0 k r w) = posX (refOff U b) p k := by
  unfold res_main_v95 res_main_v59 res_main_call2_v4 res_main_call2_v2 res_main_call2_v0
  clean_types
  pointwise
  refine word_pos (colWord w k) (p.val % 56) (k.val % 3) _ _ ((colWord_eq w k).trans (by omega)) ?_
  refine (ref_off U b _ r w).trans ?_
  exact congrArg₂ (refOff U b) (Fin.ext hp.symm) (Fin.ext (by simp only []; omega))

/-- The low row word the reference computes. -/
theorem ref_y0 (b : Fin 4) (k : Fin 9) (r w : Fin 56) (p : Fin 3136) (hp : p.val = r.val * 56 + w.val) :
    (res_main_v98 U : Vec Ideal S4x1x9x56x56 .i32) (ix5 b 0 k r w) = lowWord (posY (refOff U b) p k) := by
  rw [← ref_py U b k r w p hp]
  rfl

/-- The low column word the reference computes. -/
theorem ref_x0 (b : Fin 4) (k : Fin 9) (r w : Fin 56) (p : Fin 3136) (hp : p.val = r.val * 56 + w.val) :
    (res_main_v100 U : Vec Ideal S4x1x9x56x56 .i32) (ix5 b 0 k r w) = lowWord (posX (refOff U b) p k) := by
  rw [← ref_px U b k r w p hp]
  rfl

/-- The row fraction the reference computes. -/
theorem ref_fy (b : Fin 4) (k : Fin 9) (r w : Fin 56) (p : Fin 3136) (hp : p.val = r.val * 56 + w.val) :
    (res_main_v102 U : Vec Ideal S4x1x9x56x56 .f32) (ix5 b 0 k r w) = frac (posY (refOff U b) p k) := by
  unfold frac
  rw [← ref_y0 U b k r w p hp, ← ref_py U b k r w p hp]
  rfl

/-- The column fraction the reference computes. -/
theorem ref_fx (b : Fin 4) (k : Fin 9) (r w : Fin 56) (p : Fin 3136) (hp : p.val = r.val * 56 + w.val) :
    (res_main_v104 U : Vec Ideal S4x1x9x56x56 .f32) (ix5 b 0 k r w) = frac (posX (refOff U b) p k) := by
  unfold frac
  rw [← ref_x0 U b k r w p hp, ← ref_px U b k r w p hp]
  rfl

end Cert.Proof

end
-- ==== Proof.RefCorner.lean ====
module

public import proofs.«01_k».proof.Proof.Gen.ReferenceIdeal.Run
public import proofs.«01_k».proof.Proof.Entry
public import proofs.«01_k».proof.Proof.Spec
public import proofs.«01_k».proof.Proof.RefPos
public import Idealize.ShloMosaic.Lib.Claim
public import Idealize.ShloMosaic.Lib.Pointwise
public import Idealize.ShloMosaic.Lib.Tactic.CleanTypes

/-! One corner of the reference's bilinear read: its masked gather at an index word, weighed. -/

@[expose] public section

set_option maxRecDepth 16384

noncomputable section

namespace Cert.Proof

open Idealize.ShloMosaic Idealize.ShloMosaic.WordCmp Idealize.ShloMosaic.TcCoe Cert.ReferenceIdeal Cert.ReferenceIdeal.Value

/-- The reference's gather at an index: the pixel its index word names. -/
theorem gather_at (xg : Vec Ideal S4x1x256x3136 .f32) (ix : Vec Ideal S4x28224x1 .i32) (b : Fin 4) (i : Fin 256)
    (n : Fin 28224) :
    Host.gather gather_S4x1x256x3136_S4x28224x1_S4x1x256x28224_12_3_0_0_3_2_112561 xg ix (ix4 b 0 i n)
      = xg (ix4 b 0 i ⟨min (ix (ix3 b n 0)).toInt.toNat 3135, by omega⟩) := by
  unfold Host.gather
  refine congrArg xg (funext fun a => Fin.ext ?_)
  have hz : ∀ s o : ℕ, s = 0 → o = 0 → s + b.val + o = b.val := fun s o hs ho => by omega
  have hi : ∀ s c : ℕ, s = 0 → c = 0 → s + c + i.val = i.val := fun s c hs hc => by omega
  have hn : ∀ s c o : ℕ, c = 0 → o = 0 → s + c + o = s := fun s c o hc ho => by omega
  match a with
  | ⟨0, _⟩ => exact hz _ _ rfl rfl
  | ⟨1, _⟩ => rfl
  | ⟨2, _⟩ => exact hi _ _ rfl rfl
  | ⟨3, _⟩ =>
    refine (hn _ _ _ rfl rfl).trans ?_
    refine congrArg (fun y => min (ix y).toInt.toNat 3135) (funext fun c => Fin.ext ?_)
    match c with
    | ⟨0, _⟩ => rfl
    | ⟨1, _⟩ => rfl
    | ⟨2, _⟩ => rfl

/-- The index word the reference makes of a row word and a column word: both clamped into the image, the row times `56`
    plus the column, and `3136` more where that is negative. -/
def pixWord (A B : BitVec 32) : BitVec 32 :=
  let e := IntOp.addi (IntOp.muli (IntOp.minsi 55#32 (IntOp.maxsi 0#32 A)) 56#32)
    (IntOp.minsi 55#32 (IntOp.maxsi 0#32 B))
  Scalar.select (IntOp.cmpi .slt e 0#32) (IntOp.addi e 3136#32) e

/-- The bit saying that a row word and a column word name a pixel. -/
def inBit (A B : BitVec 32) : BitVec 1 :=
  IntOp.andi (IntOp.andi (IntOp.andi (IntOp.cmpi .sge A 0#32) (IntOp.cmpi .slt A 56#32)) (IntOp.cmpi .sge B 0#32))
    (IntOp.cmpi .slt B 56#32)

/-- The index word of a row and a column inside the image. -/
theorem pixWord_eq : ∀ a b : Fin 56,
    (pixWord (BitVec.ofNat 32 a.val) (BitVec.ofNat 32 b.val)).toInt = ((a.val * 56 + b.val : ℕ) : ℤ) := by
  decide +kernel

/-- The bit as a test. -/
theorem inBit_eq (A B : BitVec 32) :
    inBit A B = if (0 ≤ A.toInt ∧ A.toInt < 56) ∧ (0 ≤ B.toInt ∧ B.toInt < 56) then 1#1 else 0#1 := by
  unfold inBit
  rw [cmpi_sge_eq, cmpi_slt_eq, cmpi_sge_eq, cmpi_slt_eq]
  have h0 : (0#32 : BitVec 32).toInt = 0 := rfl
  have h56 : (56#32 : BitVec 32).toInt = 56 := rfl
  rw [h0, h56]
  by_cases h1 : 0 ≤ A.toInt <;> by_cases h2 : A.toInt < 56 <;> by_cases h3 : 0 ≤ B.toInt <;>
    by_cases h4 : B.toInt < 56 <;> simp [h1, h2, h3, h4, IntOp.andi]

/-- A word whose value is a row or a column is that number's word. -/
theorem word_ofNat (A : BitVec 32) (h : 0 ≤ A.toInt ∧ A.toInt < 56) : ∃ a : Fin 56, A = BitVec.ofNat 32 a.val := by
  refine ⟨⟨A.toInt.toNat, by omega⟩, BitVec.eq_of_toInt_eq ?_⟩
  have : (BitVec.ofNat 32 A.toInt.toNat).toInt = (A.toInt.toNat : ℤ) := toInt_ofNat_of_lt (by omega)
  rw [this]; omega

/-- The reference's corner: its masked gather at the index word of a row word and a column word, weighed by a number
    times the bit saying that they name a pixel, is `corner`. -/
theorem ref_corner (xg : Vec Ideal S4x1x256x3136 .f32) (ix : Vec Ideal S4x28224x1 .i32) (b : Fin 4) (i : Fin 256)
    (n : Fin 28224) (X : Fin 3136 → EReal) (A B : BitVec 32) (z v v' t : EReal)
    (hx : ∀ q, xg (ix4 b 0 i q) = X q) (hix : ix (ix3 b n 0) = pixWord A B)
    (ht : t = v' * FloatOps.uitofp (F := Ideal) FTy.f32 (inBit A B)) (hv : v' = v) :
    Scalar.select (Finset.fold IntOp.andi (1#1) (fun x : Fin 1 => IntOp.andi (IntOp.cmpi .sge (ix (ix3 b n x)) 0#32)
        (IntOp.cmpi .sle (ix (ix3 b n x)) 3135#32)) Finset.univ)
      (Host.gather gather_S4x1x256x3136_S4x28224x1_S4x1x256x28224_12_3_0_0_3_2_112561 xg ix (ix4 b 0 i n)) z * t
      = corner X A B v := by
  subst hv
  rw [ht, inBit_eq, gather_at, hx]
  unfold corner
  by_cases h : (0 ≤ A.toInt ∧ A.toInt < 56) ∧ (0 ≤ B.toInt ∧ B.toInt < 56)
  · rw [if_pos h, dif_pos h]
    obtain ⟨a, rfl⟩ := word_ofNat A h.1
    obtain ⟨c, rfl⟩ := word_ofNat B h.2
    have ha : (BitVec.ofNat 32 a.val).toInt = (a.val : ℤ) := toInt_ofNat_of_lt (by omega)
    have hc : (BitVec.ofNat 32 c.val).toInt = (c.val : ℤ) := toInt_ofNat_of_lt (by omega)
    have hp := pixWord_eq a c
    have hu : (FloatOps.uitofp (F := Ideal) FTy.f32 (1#1) : EReal) = 1 := by
      show (((1#1 : BitVec 1).toNat : ℝ) : EReal) = 1
      simp
    have hf : Finset.fold IntOp.andi (1#1) (fun x : Fin 1 => IntOp.andi (IntOp.cmpi .sge (ix (ix3 b n x)) 0#32)
        (IntOp.cmpi .sle (ix (ix3 b n x)) 3135#32)) Finset.univ = 1#1 := by
      rw [Finset.univ_unique, Finset.fold_singleton]
      show IntOp.andi (IntOp.andi (IntOp.cmpi .sge (ix (ix3 b n 0)) 0#32) (IntOp.cmpi .sle (ix (ix3 b n 0)) 3135#32)) _ = _
      rw [hix, cmpi_sge_eq, cmpi_sle_eq, hp, decide_eq_true (by simp only [BitVec.toInt_zero]; omega),
        decide_eq_true (show ((a.val * 56 + c.val : ℕ) : ℤ) ≤ (3135#32 : BitVec 32).toInt by
          rw [show (3135#32 : BitVec 32).toInt = 3135 from rfl]; omega)]
      rfl
    rw [hf, hu, mul_one]
    refine congrArg₂ (· * ·) (congrArg X (Fin.ext ?_)) rfl
    show min (ix (ix3 b n 0)).toInt.toNat 3135 = _
    rw [hix, hp]
    simp only [ha, hc]
    omega
  · rw [if_neg h, dif_neg h]
    have hu : (FloatOps.uitofp (F := Ideal) FTy.f32 (0#1) : EReal) = 0 := by
      show (((0#1 : BitVec 1).toNat : ℝ) : EReal) = 0
      simp
    rw [hu, mul_zero, mul_zero]

end Cert.Proof

end
-- ==== Proof.RefValue.lean ====
module

public import proofs.«01_k».proof.Proof.Gen.ReferenceIdeal.Run
public import proofs.«01_k».proof.Proof.Entry
public import proofs.«01_k».proof.Proof.Spec
public import proofs.«01_k».proof.Proof.RefCorner
public import Idealize.ShloMosaic.Lib.Claim
public import Idealize.ShloMosaic.Lib.Pointwise
public import Idealize.ShloMosaic.Lib.Tactic.CleanTypes

/-! The reference's result at an index. -/

@[expose] public section

set_option maxRecDepth 16384

noncomputable section

namespace Cert.Proof

open Idealize.ShloMosaic Idealize.ShloMosaic.WordCmp Idealize.ShloMosaic.TcCoe Cert.ReferenceIdeal Cert.ReferenceIdeal.Value

variable (U : Valuation τ sig (Elt Ideal))

/-- Where entry `n` of the reference's flat list of samples stands: its tap, its row and its column. -/
abbrev at5 (b : Fin 4) (n : Fin 28224) : S4x1x9x56x56.Idx :=
  ix5 b 0 (⟨n.val / 3136, by omega⟩ : Fin 9) (⟨n.val / 56 % 56, by omega⟩ : Fin 56) (⟨n.val % 56, by omega⟩ : Fin 56)

/-- The index words of the four corners. -/
theorem ref_index (b : Fin 4) (n : Fin 28224) :
    (res_main_call5_v5 U : Vec Ideal S4x28224x1 .i32) (ix3 b n 0)
        = pixWord ((res_main_v98 U : Vec Ideal S4x1x9x56x56 .i32) (at5 b n))
          ((res_main_v100 U : Vec Ideal S4x1x9x56x56 .i32) (at5 b n))
      ∧ (res_main_call8_v5 U : Vec Ideal S4x28224x1 .i32) (ix3 b n 0)
        = pixWord ((res_main_v98 U : Vec Ideal S4x1x9x56x56 .i32) (at5 b n))
          ((res_main_v134 U : Vec Ideal S4x1x9x56x56 .i32) (at5 b n))
      ∧ (res_main_call11_v5 U : Vec Ideal S4x28224x1 .i32) (ix3 b n 0)
        = pixWord ((res_main_v163 U : Vec Ideal S4x1x9x56x56 .i32) (at5 b n))
          ((res_main_v100 U : Vec Ideal S4x1x9x56x56 .i32) (at5 b n))
      ∧ (res_main_call14_v5 U : Vec Ideal S4x28224x1 .i32) (ix3 b n 0)
        = pixWord ((res_main_v192 U : Vec Ideal S4x1x9x56x56 .i32) (at5 b n))
          ((res_main_v194 U : Vec Ideal S4x1x9x56x56 .i32) (at5 b n)) := by
  unfold res_main_call5_v5 res_main_v126 res_main_call8_v5 res_main_v154 res_main_call11_v5 res_main_v183
    res_main_call14_v5 res_main_v212
  clean_types
  refine ⟨?_, ?_, ?_, ?_⟩ <;> (pointwise; rfl)

/-- The reference's image, flat. -/
theorem ref_image (b : Fin 4) (i : Fin 256) (q : Fin 3136) :
    (res_main_v96 U : Vec Ideal S4x1x256x3136 .f32) (ix4 b 0 i q) = imgAt (U (Proc.devRef .tc main_arg0)) b i q := by
  unfold res_main_v96
  clean_types
  pointwise
  rfl

/-- The reference's words and fractions at a pixel and a tap, all from the position sampled. -/
theorem ref_words (b : Fin 4) (k : Fin 9) (r w : Fin 56) (p : Fin 3136) (hp : p.val = r.val * 56 + w.val) :
    ((res_main_v134 U : Vec Ideal S4x1x9x56x56 .i32) (ix5 b 0 k r w) = lowWord (posX (refOff U b) p k) + 1
      ∧ (res_main_v163 U : Vec Ideal S4x1x9x56x56 .i32) (ix5 b 0 k r w) = lowWord (posY (refOff U b) p k) + 1)
      ∧ (res_main_v192 U : Vec Ideal S4x1x9x56x56 .i32) (ix5 b 0 k r w) = lowWord (posY (refOff U b) p k) + 1
      ∧ (res_main_v194 U : Vec Ideal S4x1x9x56x56 .i32) (ix5 b 0 k r w) = lowWord (posX (refOff U b) p k) + 1 := by
  rw [← ref_y0 U b k r w p hp, ← ref_x0 U b k r w p hp]
  unfold res_main_v134 res_main_v163 res_main_v192 res_main_v194
  clean_types
  refine ⟨⟨?_, ?_⟩, ?_, ?_⟩ <;> (pointwise; rfl)

/-- The first three corners of the reference's samples, at entry `n` of its flat list: tap `k` at row `r` and column
    `w`. -/
theorem ref_three (b : Fin 4) (i : Fin 256) (n : Fin 28224) (k : Fin 9) (r w : Fin 56) (p : Fin 3136)
    (hp : p.val = r.val * 56 + w.val) (h5 : at5 b n = ix5 b 0 k r w) :
    (res_main_v190 U : Vec Ideal S4x1x256x28224 .f32) (ix4 b 0 i n)
      = corner (imgAt (U (Proc.devRef .tc main_arg0)) b i) (lowWord (posY (refOff U b) p k))
            (lowWord (posX (refOff U b) p k))
            ((1 - frac (posY (refOff U b) p k)) * (1 - frac (posX (refOff U b) p k)))
        + corner (imgAt (U (Proc.devRef .tc main_arg0)) b i) (lowWord (posY (refOff U b) p k))
            (lowWord (posX (refOff U b) p k) + 1) ((1 - frac (posY (refOff U b) p k)) * frac (posX (refOff U b) p k))
        + corner (imgAt (U (Proc.devRef .tc main_arg0)) b i) (lowWord (posY (refOff U b) p k) + 1)
            (lowWord (posX (refOff U b) p k)) (frac (posY (refOff U b) p k) * (1 - frac (posX (refOff U b) p k))) := by
  have hy := ref_y0 U b k r w p hp
  have hx := ref_x0 U b k r w p hp
  have hw := ref_words U b k r w p hp
  have hi := ref_index U b n
  rw [h5] at hi
  rw [← hw.1.1, ← hw.1.2, ← hy, ← hx, ← ref_fy U b k r w p hp, ← ref_fx U b k r w p hp]
  unfold res_main_v190
  clean_types
  pointwise
  refine congrArg₂ (· + ·) (congrArg₂ (· + ·) ?_ ?_) ?_
  · exact ref_corner _ _ b i n _ _ _ _ _ _ _ (ref_image U b i) hi.1 (by rw [← h5]; rfl) rfl
  · exact ref_corner _ _ b i n _ _ _ _ _ _ _ (ref_image U b i) hi.2.1 (by rw [← h5]; rfl) rfl
  · exact ref_corner _ _ b i n _ _ _ _ _ _ _ (ref_image U b i) hi.2.2.1 (by rw [← h5]; rfl) rfl

/-- THE REFERENCE'S RESULT at an index: the deformable convolution of its arguments. -/
theorem ref_at (b : Fin 4) (o : Fin 256) (r w : Fin 56) :
    (val5 U (Proc.devRef .tc main_v223) : Vec Ideal S4x256x56x56 .f32) (ix4 b o r w)
      = out (imgAt (U (Proc.devRef .tc main_arg0)) b) (refOff U b) (wgtAt (U (Proc.devRef .tc main_arg1)))
          ⟨r.val * 56 + w.val, by omega⟩ o := by
  refine (congrFun (val5_main_v223 U) _).trans ?_
  clean_types
  pointwise
  unfold out
  rw [Finset.sum_comm]
  refine Finset.sum_congr rfl fun k _ => Finset.sum_congr rfl fun i _ => (mul_comm _ _).trans (congrArg₂ (· * ·) ?_ rfl)
  have hp : (⟨r.val * 56 + w.val, by omega⟩ : Fin 3136).val = r.val * 56 + w.val := rfl
  have h5 : at5 b (⟨k.val * 3136 + r.val * 56 + w.val, by omega⟩ : Fin 28224) = ix5 b 0 k r w := by
    unfold at5
    congr 1 <;> exact Fin.ext (by simp only []; omega)
  have hi := ref_index U b (⟨k.val * 3136 + r.val * 56 + w.val, by omega⟩ : Fin 28224)
  rw [h5] at hi
  have hw := ref_words U b k r w _ hp
  refine Eq.trans ?_ (bilinear (imgAt (U (Proc.devRef .tc main_arg0)) b i) (posY (refOff U b) _ k)
    (posX (refOff U b) _ k)).symm
  refine congrArg₂ (· + ·) (ref_three U b i _ k r w _ hp h5) ?_
  rw [← hw.2.1, ← hw.2.2, ← ref_fy U b k r w _ hp, ← ref_fx U b k r w _ hp]
  exact ref_corner _ _ b i _ _ _ _ _ _ _ _ (ref_image U b i) hi.2.2.2 rfl rfl

end Cert.Proof

end
-- ==== Proof.Tie.lean ====
/-
  THE REFERENCE'S FRAME AND THE VALUE CLAIM: the kernel's result array and the reference's are, element by element, one
  deformable convolution of the arguments (`Spec.lean` `out`).
-/
module

public import proofs.«01_k».proof.Defs
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Lib.Claim
public import Idealize.ShloMosaic.Lib.Pipeline.ValueKit

@[expose] public section

set_option maxRecDepth 16384

noncomputable section

namespace Cert.Proof

open Idealize.ShloMosaic Idealize.ShloMosaic.TcCoe Idealize.SL.Sem

/-- The two results are equal where the arguments agree. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3)) :
    (ReferenceIdeal.Value.val5 (StableHlo.launchContents m' c) (Proc.devRef .tc ReferenceIdeal.main_v223)
        : Vec Ideal ReferenceIdeal.S4x256x56x56 .f32)
      = Pipeline.afterTail₀ KernelIdeal.cfgs (KernelIdeal.Gen.dats m) 0 (KernelIdeal.Gen.V0 m)
          [KernelIdeal.Gen.hostOps1] c KernelIdeal.main_v0 := by
  funext j
  obtain ⟨b, o, r, w, rfl⟩ : ∃ (b : Fin 4) (o : Fin 256) (r w : Fin 56), j = ix4 b o r w :=
    ⟨j 0, j 1, j 2, j 3, by funext a; fin_cases a <;> rfl⟩
  refine (ref_at (StableHlo.launchContents m' c) b o r w).trans (Eq.trans ?_ (kernel_at m c b o r w).symm)
  unfold resAt offAt refOff
  rw [← h0, ← h1, ← h2, ← h3]

/-- The kernel's run ends with its result buffer at what the frame's run computes for it. -/
theorem kernel_run (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal))) ⟨m, fun _ => 0, g⟩
      (fun r => ∀ c : Dev KernelIdeal.nD, r.2.mem ((c.tc : Thread KernelIdeal.nD KernelIdeal.τ).loc KernelIdeal.main_v0)
        = Pipeline.afterTail₀ KernelIdeal.cfgs (KernelIdeal.Gen.dats m) 0 (KernelIdeal.Gen.V0 m) [KernelIdeal.Gen.hostOps1]
            c KernelIdeal.main_v0) := by
  run_from Cert.KernelIdeal.Gen.run_main m g

/-- The value claim: the kernel and the reference, at the ideal instance, end with equal results. -/
theorem algebraic : algebraic_KernelIdeal_ReferenceIdeal := by
  intro m g m' g' _ hagree
  refine ⟨fun c => Pipeline.afterTail₀ KernelIdeal.cfgs (KernelIdeal.Gen.dats m) 0 (KernelIdeal.Gen.V0 m)
    [KernelIdeal.Gen.hostOps1] c KernelIdeal.main_v0, ?_, ?_⟩
  · exact (θ_run KernelIdeal.defs _ _).mono (fun r h c => ⟨h.1 c, h.2 c⟩)
      (θ_run_and (kernel_run m g) (KernelIdeal.Gen.unchanged m g))
  · exact (θ_run ReferenceIdeal.defs _ _).mono (fun r h c => ⟨((h c).1.trans
        (ReferenceIdeal.Value.val5_main_v223 (StableHlo.launchContents m' c)).symm).trans
        (results_eq m m' c (hagree c).1 (hagree c).2.1 (hagree c).2.2.1 (hagree c).2.2.2), (h c).2⟩)
      (ReferenceIdeal.Value.run (F := Ideal) m' g')

/-- The reference's frame: its run ends, its arguments unchanged and every semaphore at zero. -/
theorem frame_reference : quiescent_ReferenceIdeal := fun m g _ =>
  (θ_run ReferenceIdeal.defs _ _).mono (fun r h => ⟨fun c => (h c).2, sem_eq_zero_of_no_sems (by decide) r.2⟩)
    (ReferenceIdeal.Value.run (F := Ideal) m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Tie

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
